-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_LastSumIdeal (m : (ℓ : Loc Cert.LastSumIdeal.nD Cert.LastSumIdeal.τ Cert.LastSumIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_LastSumIdeal [hLastSumIdeal : Cert.LastSumIdeal.Facts] : Prop :=
  ∀ (m : (ℓ : Loc Cert.LastSumIdeal.nD Cert.LastSumIdeal.τ Cert.LastSumIdeal.sig) → Buf (Elt Ideal) ℓ) (g : Dev Cert.LastSumIdeal.nD → PrngReg), Pre_LastSumIdeal m →
    θ_run (Cert.LastSumIdeal.defs (F := Ideal)) (onTc (τ := Cert.LastSumIdeal.τ) (Cert.LastSumIdeal.main (F := Ideal))) ⟨m, fun _ => 0, g⟩ (fun r => (∀ c : Dev Cert.LastSumIdeal.nD,
      r.2.mem ((c.tc : Thread Cert.LastSumIdeal.nD Cert.LastSumIdeal.τ).loc Cert.LastSumIdeal.main_arg0) = m ((c.tc : Thread Cert.LastSumIdeal.nD Cert.LastSumIdeal.τ).loc Cert.LastSumIdeal.main_arg0)
      ∧ r.2.mem ((c.tc : Thread Cert.LastSumIdeal.nD Cert.LastSumIdeal.τ).loc Cert.LastSumIdeal.main_arg1) = m ((c.tc : Thread Cert.LastSumIdeal.nD Cert.LastSumIdeal.τ).loc Cert.LastSumIdeal.main_arg1))
      ∧ r.2.sem = fun _ => 0)

def preserves_Kernel_KernelIdeal : Prop :=
  IdealRules.bf16_pair.BufferStatement Cert.KernelIdeal.S4x560x2x128 Cert.KernelIdeal.S4x560x1x128
  ∧ IdealRules.bf16_pair.PackStatement Cert.KernelIdeal.S16x512
  ∧ IdealRules.bf16_pair.Statement Cert.KernelIdeal.S1x16x2x128 Cert.KernelIdeal.S1x16x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Combine_CombineIdeal : Prop :=
  True

def algebraic_CombineIdeal_LastSumIdeal [hCombineIdeal : Cert.CombineIdeal.Facts] [hLastSumIdeal : Cert.LastSumIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.LastSumIdeal.nD Cert.LastSumIdeal.τ Cert.LastSumIdeal.sig) → Buf (Elt Ideal) ℓ) (g' : Dev Cert.LastSumIdeal.nD → PrngReg), Pre_CombineIdeal m →
    (∀ c : Dev Cert.CombineIdeal.nD,
      m' ((c.tc : Thread Cert.LastSumIdeal.nD Cert.LastSumIdeal.τ).loc Cert.LastSumIdeal.main_arg0) = m ((c.tc : Thread Cert.CombineIdeal.nD Cert.CombineIdeal.τ).loc Cert.CombineIdeal.main_arg0)
      ∧ m' ((c.tc : Thread Cert.LastSumIdeal.nD Cert.LastSumIdeal.τ).loc Cert.LastSumIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.LastSumIdeal.defs (F := Ideal)) (onTc (τ := Cert.LastSumIdeal.τ) (Cert.LastSumIdeal.main (F := Ideal))) ⟨m', fun _ => 0, g'⟩ (fun r => ∀ c : Dev Cert.LastSumIdeal.nD,
          r.2.mem ((c.tc : Thread Cert.LastSumIdeal.nD Cert.LastSumIdeal.τ).loc Cert.LastSumIdeal.main_v2) = v0 c
          ∧ r.2.mem ((c.tc : Thread Cert.LastSumIdeal.nD Cert.LastSumIdeal.τ).loc Cert.LastSumIdeal.main_arg0) = m' ((c.tc : Thread Cert.LastSumIdeal.nD Cert.LastSumIdeal.τ).loc Cert.LastSumIdeal.main_arg0)
          ∧ r.2.mem ((c.tc : Thread Cert.LastSumIdeal.nD Cert.LastSumIdeal.τ).loc Cert.LastSumIdeal.main_arg1) = m' ((c.tc : Thread Cert.LastSumIdeal.nD Cert.LastSumIdeal.τ).loc Cert.LastSumIdeal.main_arg1))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hLastSumIdeal : Cert.LastSumIdeal.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_LastSumIdeal (hLastSumIdeal := hLastSumIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_LastSumIdeal (hCombineIdeal := hCombineIdeal) (hLastSumIdeal := hLastSumIdeal)
-- ==== Kernel.lean ====
abbrev S192x1x8960 : Shape := ⟨3, ![192, 1, 8960]⟩
abbrev S4480x17152 : Shape := ⟨2, ![4480, 17152]⟩
abbrev S280x17152 : Shape := ⟨2, ![280, 17152]⟩
abbrev S35x17152 : Shape := ⟨2, ![35, 17152]⟩
abbrev S192x8960 : Shape := ⟨2, ![192, 8960]⟩
abbrev S192x17152 : Shape := ⟨2, ![192, 17152]⟩
abbrev S4480x512 : Shape := ⟨2, ![4480, 512]⟩
abbrev S280x512 : Shape := ⟨2, ![280, 512]⟩
abbrev S35x512 : Shape := ⟨2, ![35, 512]⟩
abbrev S192x512 : Shape := ⟨2, ![192, 512]⟩
abbrev S4x560x128 : Shape := ⟨3, ![4, 560, 128]⟩
abbrev S8x512 : Shape := ⟨2, ![8, 512]⟩
abbrev S8x1x512 : Shape := ⟨3, ![8, 1, 512]⟩
abbrev S8x2x512 : Shape := ⟨3, ![8, 2, 512]⟩
abbrev S16x512 : Shape := ⟨2, ![16, 512]⟩
abbrev S1x512 : Shape := ⟨2, ![1, 512]⟩
abbrev S16x128 : Shape := ⟨2, ![16, 128]⟩
abbrev S1x16x128 : Shape := ⟨3, ![1, 16, 128]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S1x1x128 : Shape := ⟨3, ![1, 1, 128]⟩
abbrev S1x128 : Shape := ⟨2, ![1, 128]⟩
abbrev S8x128 : Shape := ⟨2, ![8, 128]⟩
abbrev S192x256 : Shape := ⟨2, ![192, 256]⟩

abbrev nBuf : Space → Nat
  | .hbm => 10
  | .vmem => 19
  | .smem => 0
  | _ => 0

abbrev bufTy : (tb : Table) → Fin (tcTables nBuf tb) → BufTy
  | .hbm, ⟨0, _⟩ => ⟨S192x1x8960, .bf16⟩
  | .hbm, ⟨1, _⟩ => ⟨S4480x17152, .i8⟩
  | .hbm, ⟨2, _⟩ => ⟨S280x17152, .i8⟩
  | .hbm, ⟨3, _⟩ => ⟨S280x17152, .i8⟩
  | .hbm, ⟨4, _⟩ => ⟨S35x17152, .f32⟩
  | .hbm, ⟨5, _⟩ => ⟨S35x17152, .f32⟩
  | .hbm, ⟨6, _⟩ => ⟨S35x17152, .f32⟩
  | .hbm, ⟨7, _⟩ => ⟨S35x17152, .f32⟩
  | .hbm, ⟨8, _⟩ => ⟨S192x8960, .bf16⟩
  | .hbm, ⟨9, _⟩ => ⟨S192x17152, .f32⟩
  | .local _ .vmem, ⟨0, _⟩ => ⟨S192x8960, .bf16⟩
  | .local _ .vmem, ⟨1, _⟩ => ⟨S4480x512, .i8⟩
  | .local _ .vmem, ⟨2, _⟩ => ⟨S4480x512, .i8⟩
  | .local _ .vmem, ⟨3, _⟩ => ⟨S280x512, .i8⟩
  | .local _ .vmem, ⟨4, _⟩ => ⟨S280x512, .i8⟩
  | .local _ .vmem, ⟨5, _⟩ => ⟨S280x512, .i8⟩
  | .local _ .vmem, ⟨6, _⟩ => ⟨S280x512, .i8⟩
  | .local _ .vmem, ⟨7, _⟩ => ⟨S35x512, .f32⟩
  | .local _ .vmem, ⟨8, _⟩ => ⟨S35x512, .f32⟩
  | .local _ .vmem, ⟨9, _⟩ => ⟨S35x512, .f32⟩
  | .local _ .vmem, ⟨10, _⟩ => ⟨S35x512, .f32⟩
  | .local _ .vmem, ⟨11, _⟩ => ⟨S35x512, .f32⟩
  | .local _ .vmem, ⟨12, _⟩ => ⟨S35x512, .f32⟩
  | .local _ .vmem, ⟨13, _⟩ => ⟨S35x512, .f32⟩
  | .local _ .vmem, ⟨14, _⟩ => ⟨S35x512, .f32⟩
  | .local _ .vmem, ⟨15, _⟩ => ⟨S192x512, .f32⟩
  | .local _ .vmem, ⟨16, _⟩ => ⟨S192x512, .f32⟩
  | .local _ .vmem, ⟨17, _⟩ => ⟨S4x560x128, .i32⟩
  | .local _ .vmem, ⟨18, _⟩ => ⟨S4x560x128, .i32⟩
  | _, _ => ⟨S192x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![34], ![false]⟩

@[reducible] def k0_t1_loop : Scf.Loop 32 :=
  let c0_i32 : BitVec 32 := 0#32
  let c35_i32 : BitVec 32 := 35#32
  let v1 : BitVec 32 := Scalar.addi c0_i32 c35_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v4 : BitVec 32 := Scalar.muli arg12 c8_i32
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let v20 : Index := Scalar.indexCast arg12
  let c0_3 : Index := 0#32
  ![v20.toNat, 0]
def k0_off3 (k0_t1 : Fin k0_t1_loop.trips) : Fin 3 → Nat :=
  let c0_5 : Index := 0#32
  let c0_i32 : BitVec 32 := 0#32
  let c1_i32 : BitVec 32 := 1#32
  let arg12 : BitVec 32 := Scf.iv c0_i32 c1_i32 k0_t1
  let c16_i32 : BitVec 32 := 16#32
  let v30 : BitVec 32 := Scalar.muli arg12 c16_i32
  let v31 : Index := Scalar.indexCast v30
  let c0_6 : Index := 0#32
  ![0, v31.toNat, 0]
def k0_off4 (k0_t1 : Fin k0_t1_loop.trips) : Fin 3 → Nat :=
  let c1 : Index := 1#32
  let c0_i32 : BitVec 32 := 0#32
  let c1_i32 : BitVec 32 := 1#32
  let arg12 : BitVec 32 := Scf.iv c0_i32 c1_i32 k0_t1
  let c16_i32_7 : BitVec 32 := 16#32
  let v36 : BitVec 32 := Scalar.muli arg12 c16_i32_7
  let v37 : Index := Scalar.indexCast v36
  let c0_8 : Index := 0#32
  ![1, v37.toNat, 0]
def k0_off5 (k0_t1 : Fin k0_t1_loop.trips) : Fin 3 → Nat :=
  let c2 : Index := 2#32
  let c0_i32 : BitVec 32 := 0#32
  let c1_i32 : BitVec 32 := 1#32
  let arg12 : BitVec 32 := Scf.iv c0_i32 c1_i32 k0_t1
  let c16_i32_9 : BitVec 32 := 16#32
  let v42 : BitVec 32 := Scalar.muli arg12 c16_i32_9
  let v43 : Index := Scalar.indexCast v42
  let c0_10 : Index := 0#32
  ![2, v43.toNat, 0]
def k0_off6 (k0_t1 : Fin k0_t1_loop.trips) : Fin 3 → Nat :=
  let c3 : Index := 3#32
  let c0_i32 : BitVec 32 := 0#32
  let c1_i32 : BitVec 32 := 1#32
  let arg12 : BitVec 32 := Scf.iv c0_i32 c1_i32 k0_t1
  let c16_i32_11 : BitVec 32 := 16#32
  let v48 : BitVec 32 := Scalar.muli arg12 c16_i32_11
  let v49 : Index := Scalar.indexCast v48
  let c0_12 : Index := 0#32
  ![3, v49.toNat, 0]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v102 : BitVec 32 := Scalar.muli arg12 c128_i32
  let v103 : Index := Scalar.indexCast v102
  let c0_32 : Index := 0#32
  ![v103.toNat, 0]
def k0_off8 (k0_t1 : Fin k0_t1_loop.trips) (c0_i32_36 : BitVec 32) : Fin 3 → Nat :=
  let c0_37 : Index := 0#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v117 : Index := Scalar.indexCast v116
  let c0_38 : Index := 0#32
  ![0, v117.toNat, 0]
def k0_off9 (k0_t1 : Fin k0_t1_loop.trips) (c0_i32_36 : BitVec 32) : Fin 3 → Nat :=
  let c1_39 : Index := 1#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v122 : Index := Scalar.indexCast v116
  let c0_40 : Index := 0#32
  ![1, v122.toNat, 0]
def k0_off10 (k0_t1 : Fin k0_t1_loop.trips) (c0_i32_36 : BitVec 32) : Fin 3 → Nat :=
  let c2_41 : Index := 2#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v127 : Index := Scalar.indexCast v116
  let c0_42 : Index := 0#32
  ![2, v127.toNat, 0]
def k0_off11 (k0_t1 : Fin k0_t1_loop.trips) (c0_i32_36 : BitVec 32) : Fin 3 → Nat :=
  let c3_43 : Index := 3#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v132 : Index := Scalar.indexCast v116
  let c0_44 : Index := 0#32
  ![3, v132.toNat, 0]
def k0_off12 (k0_t1 : Fin k0_t1_loop.trips) : Fin 2 → Nat :=
  let c0_344 : Index := 0#32
  let c0_i32 : BitVec 32 := 0#32
  let c1_i32 : BitVec 32 := 1#32
  let arg12 : BitVec 32 := Scf.iv c0_i32 c1_i32 k0_t1
  let c256_i32 : BitVec 32 := 256#32
  let v900 : BitVec 32 := Scalar.muli arg12 c256_i32
  let v901 : Index := Scalar.indexCast v900
  ![0, v901.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4480x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S280x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S35x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S35x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S35x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S35x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S192x1x8960 : Shape := ⟨3, ![192, 1, 8960]⟩
abbrev S4480x17152 : Shape := ⟨2, ![4480, 17152]⟩
abbrev S280x17152 : Shape := ⟨2, ![280, 17152]⟩
abbrev S35x17152 : Shape := ⟨2, ![35, 17152]⟩
abbrev S192x8960 : Shape := ⟨2, ![192, 8960]⟩
abbrev S192x17152 : Shape := ⟨2, ![192, 17152]⟩
abbrev S4480x512 : Shape := ⟨2, ![4480, 512]⟩
abbrev S280x512 : Shape := ⟨2, ![280, 512]⟩
abbrev S35x512 : Shape := ⟨2, ![35, 512]⟩
abbrev S192x512 : Shape := ⟨2, ![192, 512]⟩
abbrev S4x560x128 : Shape := ⟨3, ![4, 560, 128]⟩
abbrev S4x560x2x128 : Shape := ⟨4, ![4, 560, 2, 128]⟩
abbrev S4x560x1x128 : Shape := ⟨4, ![4, 560, 1, 128]⟩
abbrev S8x512 : Shape := ⟨2, ![8, 512]⟩
abbrev S8x1x512 : Shape := ⟨3, ![8, 1, 512]⟩
abbrev S8x2x512 : Shape := ⟨3, ![8, 2, 512]⟩
abbrev S16x512 : Shape := ⟨2, ![16, 512]⟩
abbrev S1x512 : Shape := ⟨2, ![1, 512]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S8x128 : Shape := ⟨2, ![8, 128]⟩
abbrev S192x256 : Shape := ⟨2, ![192, 256]⟩

abbrev nBuf : Space → Nat
  | .hbm => 10
  | .vmem => 19
  | .smem => 0
  | _ => 0

abbrev bufTy : (tb : Table) → Fin (tcTables nBuf tb) → BufTy
  | .hbm, ⟨0, _⟩ => ⟨S192x1x8960, .bf16⟩
  | .hbm, ⟨1, _⟩ => ⟨S4480x17152, .i8⟩
  | .hbm, ⟨2, _⟩ => ⟨S280x17152, .i8⟩
  | .hbm, ⟨3, _⟩ => ⟨S280x17152, .i8⟩
  | .hbm, ⟨4, _⟩ => ⟨S35x17152, .f32⟩
  | .hbm, ⟨5, _⟩ => ⟨S35x17152, .f32⟩
  | .hbm, ⟨6, _⟩ => ⟨S35x17152, .f32⟩
  | .hbm, ⟨7, _⟩ => ⟨S35x17152, .f32⟩
  | .hbm, ⟨8, _⟩ => ⟨S192x8960, .bf16⟩
  | .hbm, ⟨9, _⟩ => ⟨S192x17152, .f32⟩
  | .local _ .vmem, ⟨0, _⟩ => ⟨S192x8960, .bf16⟩
  | .local _ .vmem, ⟨1, _⟩ => ⟨S4480x512, .i8⟩
  | .local _ .vmem, ⟨2, _⟩ => ⟨S4480x512, .i8⟩
  | .local _ .vmem, ⟨3, _⟩ => ⟨S280x512, .i8⟩
  | .local _ .vmem, ⟨4, _⟩ => ⟨S280x512, .i8⟩
  | .local _ .vmem, ⟨5, _⟩ => ⟨S280x512, .i8⟩
  | .local _ .vmem, ⟨6, _⟩ => ⟨S280x512, .i8⟩
  | .local _ .vmem, ⟨7, _⟩ => ⟨S35x512, .f32⟩
  | .local _ .vmem, ⟨8, _⟩ => ⟨S35x512, .f32⟩
  | .local _ .vmem, ⟨9, _⟩ => ⟨S35x512, .f32⟩
  | .local _ .vmem, ⟨10, _⟩ => ⟨S35x512, .f32⟩
  | .local _ .vmem, ⟨11, _⟩ => ⟨S35x512, .f32⟩
  | .local _ .vmem, ⟨12, _⟩ => ⟨S35x512, .f32⟩
  | .local _ .vmem, ⟨13, _⟩ => ⟨S35x512, .f32⟩
  | .local _ .vmem, ⟨14, _⟩ => ⟨S35x512, .f32⟩
  | .local _ .vmem, ⟨15, _⟩ => ⟨S192x512, .f32⟩
  | .local _ .vmem, ⟨16, _⟩ => ⟨S192x512, .f32⟩
  | .local _ .vmem, ⟨17, _⟩ => ⟨S4x560x2x128, .bf16⟩
  | .local _ .vmem, ⟨18, _⟩ => ⟨S4x560x2x128, .bf16⟩
  | _, _ => ⟨S192x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![34], ![false]⟩

@[reducible] def k0_t1_loop : Scf.Loop 32 :=
  let c0_i32 : BitVec 32 := 0#32
  let c35_i32 : BitVec 32 := 35#32
  let v1 : BitVec 32 := Scalar.addi c0_i32 c35_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v4 : BitVec 32 := Scalar.muli arg12 c8_i32
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let v20 : Index := Scalar.indexCast arg12
  let c0_3 : Index := 0#32
  ![v20.toNat, 0]
def k0_off3 (k0_t1 : Fin k0_t1_loop.trips) : Fin 4 → Nat :=
  let c0_5 : Index := 0#32
  let c0_i32 : BitVec 32 := 0#32
  let c1_i32 : BitVec 32 := 1#32
  let arg12 : BitVec 32 := Scf.iv c0_i32 c1_i32 k0_t1
  let c16_i32 : BitVec 32 := 16#32
  let v30 : BitVec 32 := Scalar.muli arg12 c16_i32
  let v31 : Index := Scalar.indexCast v30
  let c0_6 : Index := 0#32
  ![0, v31.toNat, 0, 0]
def k0_off4 (k0_t1 : Fin k0_t1_loop.trips) : Fin 4 → Nat :=
  let c1 : Index := 1#32
  let c0_i32 : BitVec 32 := 0#32
  let c1_i32 : BitVec 32 := 1#32
  let arg12 : BitVec 32 := Scf.iv c0_i32 c1_i32 k0_t1
  let c16_i32_7 : BitVec 32 := 16#32
  let v36 : BitVec 32 := Scalar.muli arg12 c16_i32_7
  let v37 : Index := Scalar.indexCast v36
  let c0_8 : Index := 0#32
  ![1, v37.toNat, 0, 0]
def k0_off5 (k0_t1 : Fin k0_t1_loop.trips) : Fin 4 → Nat :=
  let c2 : Index := 2#32
  let c0_i32 : BitVec 32 := 0#32
  let c1_i32 : BitVec 32 := 1#32
  let arg12 : BitVec 32 := Scf.iv c0_i32 c1_i32 k0_t1
  let c16_i32_9 : BitVec 32 := 16#32
  let v42 : BitVec 32 := Scalar.muli arg12 c16_i32_9
  let v43 : Index := Scalar.indexCast v42
  let c0_10 : Index := 0#32
  ![2, v43.toNat, 0, 0]
def k0_off6 (k0_t1 : Fin k0_t1_loop.trips) : Fin 4 → Nat :=
  let c3 : Index := 3#32
  let c0_i32 : BitVec 32 := 0#32
  let c1_i32 : BitVec 32 := 1#32
  let arg12 : BitVec 32 := Scf.iv c0_i32 c1_i32 k0_t1
  let c16_i32_11 : BitVec 32 := 16#32
  let v48 : BitVec 32 := Scalar.muli arg12 c16_i32_11
  let v49 : Index := Scalar.indexCast v48
  let c0_12 : Index := 0#32
  ![3, v49.toNat, 0, 0]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v102 : BitVec 32 := Scalar.muli arg12 c128_i32
  let v103 : Index := Scalar.indexCast v102
  let c0_32 : Index := 0#32
  ![v103.toNat, 0]
def k0_off8 (k0_t1 : Fin k0_t1_loop.trips) (c0_i32_36 : BitVec 32) : Fin 4 → Nat :=
  let c0_37 : Index := 0#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v117 : Index := Scalar.indexCast v116
  let c0_38 : Index := 0#32
  ![0, v117.toNat, 0, 0]
def k0_off9 (k0_t1 : Fin k0_t1_loop.trips) (c0_i32_36 : BitVec 32) : Fin 4 → Nat :=
  let c1_39 : Index := 1#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v122 : Index := Scalar.indexCast v116
  let c0_40 : Index := 0#32
  ![1, v122.toNat, 0, 0]
def k0_off10 (k0_t1 : Fin k0_t1_loop.trips) (c0_i32_36 : BitVec 32) : Fin 4 → Nat :=
  let c2_41 : Index := 2#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v127 : Index := Scalar.indexCast v116
  let c0_42 : Index := 0#32
  ![2, v127.toNat, 0, 0]
def k0_off11 (k0_t1 : Fin k0_t1_loop.trips) (c0_i32_36 : BitVec 32) : Fin 4 → Nat :=
  let c3_43 : Index := 3#32
  let c0_i32 : BitVec 32 := 0#32
  let c1_i32 : BitVec 32 := 1#32
  let arg12 : BitVec 32 := Scf.iv c0_i32 c1_i32 k0_t1
  let c16_i32_35 : BitVec 32 := 16#32
  let v115 : BitVec 32 := Scalar.muli arg12 c16_i32_35
  let v116 : BitVec 32 := Scalar.addi v115 c0_i32_36
  let v132 : Index := Scalar.indexCast v116
  let c0_44 : Index := 0#32
  ![3, v132.toNat, 0, 0]
def k0_off12 (k0_t1 : Fin k0_t1_loop.trips) : Fin 2 → Nat :=
  let c0_344 : Index := 0#32
  let c0_i32 : BitVec 32 := 0#32
  let c1_i32 : BitVec 32 := 1#32
  let arg12 : BitVec 32 := Scf.iv c0_i32 c1_i32 k0_t1
  let c256_i32 : BitVec 32 := 256#32
  let v900 : BitVec 32 := Scalar.muli arg12 c256_i32
  let v901 : Index := Scalar.indexCast v900
  ![0, v901.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4480x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S280x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S35x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S35x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S35x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S35x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S192x1x8960 : Shape := ⟨3, ![192, 1, 8960]⟩
abbrev S4480x17152 : Shape := ⟨2, ![4480, 17152]⟩
abbrev S280x17152 : Shape := ⟨2, ![280, 17152]⟩
abbrev S35x17152 : Shape := ⟨2, ![35, 17152]⟩
abbrev S_ : Shape := ⟨0, ![]⟩
abbrev S280x1x17152 : Shape := ⟨3, ![280, 1, 17152]⟩
abbrev S280x2x17152 : Shape := ⟨3, ![280, 2, 17152]⟩
abbrev S35x16x17152 : Shape := ⟨3, ![35, 16, 17152]⟩
abbrev S35x1x17152 : Shape := ⟨3, ![35, 1, 17152]⟩
abbrev S560x17152 : Shape := ⟨2, ![560, 17152]⟩
abbrev S560x8x17152 : Shape := ⟨3, ![560, 8, 17152]⟩
abbrev S560x1x17152 : Shape := ⟨3, ![560, 1, 17152]⟩
abbrev S192x1x4480 : Shape := ⟨3, ![192, 1, 4480]⟩
abbrev S192x1x17152 : Shape := ⟨3, ![192, 1, 17152]⟩
abbrev S192x17152 : Shape := ⟨2, ![192, 17152]⟩

abbrev nBuf : Space → Nat
  | .hbm => 88
  | .vmem => 0
  | .smem => 0
  | _ => 0

abbrev bufTy : (tb : Table) → Fin (tcTables nBuf tb) → BufTy
  | .hbm, ⟨0, _⟩ => ⟨S192x1x8960, .bf16⟩
  | .hbm, ⟨1, _⟩ => ⟨S4480x17152, .i8⟩
  | .hbm, ⟨2, _⟩ => ⟨S280x17152, .i8⟩
  | .hbm, ⟨3, _⟩ => ⟨S280x17152, .i8⟩
  | .hbm, ⟨4, _⟩ => ⟨S35x17152, .f32⟩
  | .hbm, ⟨5, _⟩ => ⟨S35x17152, .f32⟩
  | .hbm, ⟨6, _⟩ => ⟨S35x17152, .f32⟩
  | .hbm, ⟨7, _⟩ => ⟨S35x17152, .f32⟩
  | .hbm, ⟨8, _⟩ => ⟨S4480x17152, .i32⟩
  | .hbm, ⟨9, _⟩ => ⟨S280x17152, .i32⟩
  | .hbm, ⟨10, _⟩ => ⟨S280x17152, .i32⟩
  | .hbm, ⟨11, _⟩ => ⟨S_, .i32⟩
  | .hbm, ⟨12, _⟩ => ⟨S280x17152, .i32⟩
  | .hbm, ⟨13, _⟩ => ⟨S280x17152, .i32⟩
  | .hbm, ⟨14, _⟩ => ⟨S_, .i32⟩
  | .hbm, ⟨15, _⟩ => ⟨S280x17152, .i32⟩
  | .hbm, ⟨16, _⟩ => ⟨S280x17152, .i32⟩
  | .hbm, ⟨17, _⟩ => ⟨S_, .i32⟩
  | .hbm, ⟨18, _⟩ => ⟨S280x17152, .i32⟩
  | .hbm, ⟨19, _⟩ => ⟨S280x17152, .i32⟩
  | .hbm, ⟨20, _⟩ => ⟨S280x1x17152, .i32⟩
  | .hbm, ⟨21, _⟩ => ⟨S280x1x17152, .i32⟩
  | .hbm, ⟨22, _⟩ => ⟨S280x2x17152, .i32⟩
  | .hbm, ⟨23, _⟩ => ⟨S280x2x17152, .f32⟩
  | .hbm, ⟨24, _⟩ => ⟨S35x16x17152, .f32⟩
  | .hbm, ⟨25, _⟩ => ⟨S35x1x17152, .f32⟩
  | .hbm, ⟨26, _⟩ => ⟨S35x16x17152, .f32⟩
  | .hbm, ⟨27, _⟩ => ⟨S35x16x17152, .f32⟩
  | .hbm, ⟨28, _⟩ => ⟨S35x1x17152, .f32⟩
  | .hbm, ⟨29, _⟩ => ⟨S35x16x17152, .f32⟩
  | .hbm, ⟨30, _⟩ => ⟨S35x16x17152, .f32⟩
  | .hbm, ⟨31, _⟩ => ⟨S560x17152, .f32⟩
  | .hbm, ⟨32, _⟩ => ⟨S560x17152, .bf16⟩
  | .hbm, ⟨33, _⟩ => ⟨S_, .i32⟩
  | .hbm, ⟨34, _⟩ => ⟨S280x17152, .i32⟩
  | .hbm, ⟨35, _⟩ => ⟨S280x17152, .i32⟩
  | .hbm, ⟨36, _⟩ => ⟨S_, .i32⟩
  | .hbm, ⟨37, _⟩ => ⟨S280x17152, .i32⟩
  | .hbm, ⟨38, _⟩ => ⟨S280x17152, .i32⟩
  | .hbm, ⟨39, _⟩ => ⟨S_, .i32⟩
  | .hbm, ⟨40, _⟩ => ⟨S280x17152, .i32⟩
  | .hbm, ⟨41, _⟩ => ⟨S280x17152, .i32⟩
  | .hbm, ⟨42, _⟩ => ⟨S280x1x17152, .i32⟩
  | .hbm, ⟨43, _⟩ => ⟨S280x1x17152, .i32⟩
  | .hbm, ⟨44, _⟩ => ⟨S280x2x17152, .i32⟩
  | .hbm, ⟨45, _⟩ => ⟨S280x2x17152, .f32⟩
  | .hbm, ⟨46, _⟩ => ⟨S35x16x17152, .f32⟩
  | .hbm, ⟨47, _⟩ => ⟨S35x1x17152, .f32⟩
  | .hbm, ⟨48, _⟩ => ⟨S35x16x17152, .f32⟩
  | .hbm, ⟨49, _⟩ => ⟨S35x16x17152, .f32⟩
  | .hbm, ⟨50, _⟩ => ⟨S35x1x17152, .f32⟩
  | .hbm, ⟨51, _⟩ => ⟨S35x16x17152, .f32⟩
  | .hbm, ⟨52, _⟩ => ⟨S35x16x17152, .f32⟩
  | .hbm, ⟨53, _⟩ => ⟨S560x17152, .f32⟩
  | .hbm, ⟨54, _⟩ => ⟨S560x17152, .bf16⟩
  | .hbm, ⟨55, _⟩ => ⟨S_, .i32⟩
  | .hbm, ⟨56, _⟩ => ⟨S4480x17152, .i32⟩
  | .hbm, ⟨57, _⟩ => ⟨S4480x17152, .i32⟩
  | .hbm, ⟨58, _⟩ => ⟨S4480x17152, .bf16⟩
  | .hbm, ⟨59, _⟩ => ⟨S560x8x17152, .bf16⟩
  | .hbm, ⟨60, _⟩ => ⟨S560x1x17152, .bf16⟩
  | .hbm, ⟨61, _⟩ => ⟨S560x8x17152, .bf16⟩
  | .hbm, ⟨62, _⟩ => ⟨S560x8x17152, .bf16⟩
  | .hbm, ⟨63, _⟩ => ⟨S560x1x17152, .bf16⟩
  | .hbm, ⟨64, _⟩ => ⟨S560x8x17152, .bf16⟩
  | .hbm, ⟨65, _⟩ => ⟨S560x8x17152, .bf16⟩
  | .hbm, ⟨66, _⟩ => ⟨S4480x17152, .bf16⟩
  | .hbm, ⟨67, _⟩ => ⟨S_, .i32⟩
  | .hbm, ⟨68, _⟩ => ⟨S4480x17152, .i32⟩
  | .hbm, ⟨69, _⟩ => ⟨S4480x17152, .i32⟩
  | .hbm, ⟨70, _⟩ => ⟨S_, .i32⟩
  | .hbm, ⟨71, _⟩ => ⟨S4480x17152, .i32⟩
  | .hbm, ⟨72, _⟩ => ⟨S4480x17152, .i32⟩
  | .hbm, ⟨73, _⟩ => ⟨S4480x17152, .bf16⟩
  | .hbm, ⟨74, _⟩ => ⟨S560x8x17152, .bf16⟩
  | .hbm, ⟨75, _⟩ => ⟨S560x1x17152, .bf16⟩
  | .hbm, ⟨76, _⟩ => ⟨S560x8x17152, .bf16⟩
  | .hbm, ⟨77, _⟩ => ⟨S560x8x17152, .bf16⟩
  | .hbm, ⟨78, _⟩ => ⟨S560x1x17152, .bf16⟩
  | .hbm, ⟨79, _⟩ => ⟨S560x8x17152, .bf16⟩
  | .hbm, ⟨80, _⟩ => ⟨S560x8x17152, .bf16⟩
  | .hbm, ⟨81, _⟩ => ⟨S4480x17152, .bf16⟩
  | .hbm, ⟨82, _⟩ => ⟨S192x1x4480, .bf16⟩
  | .hbm, ⟨83, _⟩ => ⟨S192x1x17152, .f32⟩
  | .hbm, ⟨84, _⟩ => ⟨S192x1x4480, .bf16⟩
  | .hbm, ⟨85, _⟩ => ⟨S192x1x17152, .f32⟩
  | .hbm, ⟨86, _⟩ => ⟨S192x1x17152, .f32⟩
  | .hbm, ⟨87, _⟩ => ⟨S192x17152, .f32⟩
  | _, _ => ⟨S192x1x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Combine.lean ====
abbrev S192x17152 : Shape := ⟨2, ![192, 17152]⟩
abbrev S17152x192 : Shape := ⟨2, ![17152, 192]⟩
abbrev S192x512 : Shape := ⟨2, ![192, 512]⟩
abbrev S512x192 : Shape := ⟨2, ![512, 192]⟩

abbrev nBuf : Space → Nat
  | .hbm => 3
  | .vmem => 6
  | .smem => 0
  | _ => 0

abbrev bufTy : (tb : Table) → Fin (tcTables nBuf tb) → BufTy
  | .hbm, ⟨0, _⟩ => ⟨S192x17152, .f32⟩
  | .hbm, ⟨1, _⟩ => ⟨S17152x192, .f32⟩
  | .hbm, ⟨2, _⟩ => ⟨S192x17152, .bf16⟩
  | .local _ .vmem, ⟨0, _⟩ => ⟨S192x512, .f32⟩
  | .local _ .vmem, ⟨1, _⟩ => ⟨S192x512, .f32⟩
  | .local _ .vmem, ⟨2, _⟩ => ⟨S512x192, .f32⟩
  | .local _ .vmem, ⟨3, _⟩ => ⟨S512x192, .f32⟩
  | .local _ .vmem, ⟨4, _⟩ => ⟨S192x512, .bf16⟩
  | .local _ .vmem, ⟨5, _⟩ => ⟨S192x512, .bf16⟩
  | _, _ => ⟨S192x17152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastSumIdeal.lean ====
abbrev S192x17152 : Shape := ⟨2, ![192, 17152]⟩
abbrev S17152x192 : Shape := ⟨2, ![17152, 192]⟩

abbrev nBuf : Space → Nat
  | .hbm => 5
  | .vmem => 0
  | .smem => 0
  | _ => 0

abbrev bufTy : (tb : Table) → Fin (tcTables nBuf tb) → BufTy
  | .hbm, ⟨0, _⟩ => ⟨S192x17152, .f32⟩
  | .hbm, ⟨1, _⟩ => ⟨S17152x192, .f32⟩
  | .hbm, ⟨2, _⟩ => ⟨S192x17152, .f32⟩
  | .hbm, ⟨3, _⟩ => ⟨S192x17152, .f32⟩
  | .hbm, ⟨4, _⟩ => ⟨S192x17152, .bf16⟩
  | _, _ => ⟨S192x17152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelRun.lean ====
module

public import proofs.«01_k».proof.Proof.Gen.Kernel.Frame
public import proofs.«01_k».proof.Proof.Gen.Kernel.Loops
public import proofs.«01_k».proof.Proof.Gen.Kernel.Skeleton

@[expose] public section

set_option maxRecDepth 16384
set_option maxHeartbeats 1000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The kernel body, from its inputs' blocks at `x1` to `x8` and anything in the result's block and the two scratch
    buffers, runs to its end with the inputs' blocks unchanged. -/
theorem sound_kernel (c : Dev nD) (E : Set ℕ) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x128 .i32) (harg10 : arg10.IsWhole) (arg11 : Memref sig .tc .vmem S4x560x128 .i32) (harg11 : arg11.IsWhole)
    (x1 : Vec F S192x8960 .bf16) (x2 : Vec F S4480x512 .i8) (x3 : Vec F S280x512 .i8) (x4 : Vec F S280x512 .i8) (x5 : Vec F S35x512 .f32) (x6 : Vec F S35x512 .f32) (x7 : Vec F S35x512 .f32) (x8 : Vec F S35x512 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ) -∗ K ⟨⟩))
      ⊢ wp frame (wpE (defs₀ (F := F)) Variants.none c none) E (cc0_dense (F := F) i arg1 harg1 arg2 harg2 arg3 harg3 arg4 harg4 arg5 harg5 arg6 harg6 arg7 harg7 arg8 harg8 arg9 harg9 arg10 harg10 arg11 harg11) K := by
  simp only [cc0_dense_eq_skeleton]; unfold cc0_dense_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-- The windows of whose final contents nothing is said: the result's. -/
def fgt (w : Fin cfg0.W) : Bool := match w with
  | ⟨8, _⟩ => true
  | _ => false

/-- What the pipeline's run is checked against: the arrays as the kernel finds them; after the body at point `t` each
    input's buffer still at its block, and of the result's buffer nothing; the two scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0#8 : BitVec 8)) (iblk m c 2 t)
    | ⟨3, _⟩ => win0_3.fill (grid0.coords t) (fun _ => (0#8 : BitVec 8)) (iblk m c 3 t)
    | ⟨4, _⟩ => win0_4.fill (grid0.coords t) (fun _ => Scalar.ofBits .f32 0x00000000#32) (iblk m c 4 t)
    | ⟨5, _⟩ => win0_5.fill (grid0.coords t) (fun _ => Scalar.ofBits .f32 0x00000000#32) (iblk m c 5 t)
    | ⟨6, _⟩ => win0_6.fill (grid0.coords t) (fun _ => Scalar.ofBits .f32 0x00000000#32) (iblk m c 6 t)
    | ⟨7, _⟩ => win0_7.fill (grid0.coords t) (fun _ => Scalar.ofBits .f32 0x00000000#32) (iblk m c 7 t)
    | ⟨8, _⟩ => (fun _ => Scalar.ofBits .f32 0x00000000#32)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

/-- The activations' buffer holds the whole array at every point. -/
theorem before0_0 (c : Dev nD) (t : Fin cfg0.N) (d) : (dats m 0 c).before 0 t d = iblk m c 0 t :=
  before0_0_of m (dats m 0 c) (A_eq m c 0) (after0_0 m c) t d

/-! Every other input's buffer holds, when the body starts, the block just fetched, on the columns inside the array. -/

theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (d) : (dats m 0 c).before 5 t d = win0_5.fill (grid0.coords t) d (iblk m c 5 t) := by
  unfold Dat.before; rw [if_pos (fetch0_5 t)]; rfl
theorem before0_6 (c : Dev nD) (t : Fin cfg0.N) (d) : (dats m 0 c).before 6 t d = win0_6.fill (grid0.coords t) d (iblk m c 6 t) := by
  unfold Dat.before; rw [if_pos (fetch0_6 t)]; rfl
theorem before0_7 (c : Dev nD) (t : Fin cfg0.N) (d) : (dats m 0 c).before 7 t d = win0_7.fill (grid0.coords t) d (iblk m c 7 t) := by
  unfold Dat.before; rw [if_pos (fetch0_7 t)]; rfl

/-! The body leaves each of those buffers at its block, on the columns inside the array. -/

theorem cut_after0_1 (c : Dev nD) (t : Fin cfg0.N) : win0_1.cut (grid0.coords t) ((dats m 0 c).after 1 t) = iblk m c 1 t := by
  dsimp only [dats]; exact win0_1.cut_fill _ _ _
theorem cut_after0_2 (c : Dev nD) (t : Fin cfg0.N) : win0_2.cut (grid0.coords t) ((dats m 0 c).after 2 t) = iblk m c 2 t := by
  dsimp only [dats]; exact win0_2.cut_fill _ _ _
theorem cut_after0_3 (c : Dev nD) (t : Fin cfg0.N) : win0_3.cut (grid0.coords t) ((dats m 0 c).after 3 t) = iblk m c 3 t := by
  dsimp only [dats]; exact win0_3.cut_fill _ _ _
theorem cut_after0_4 (c : Dev nD) (t : Fin cfg0.N) : win0_4.cut (grid0.coords t) ((dats m 0 c).after 4 t) = iblk m c 4 t := by
  dsimp only [dats]; exact win0_4.cut_fill _ _ _
theorem cut_after0_5 (c : Dev nD) (t : Fin cfg0.N) : win0_5.cut (grid0.coords t) ((dats m 0 c).after 5 t) = iblk m c 5 t := by
  dsimp only [dats]; exact win0_5.cut_fill _ _ _
theorem cut_after0_6 (c : Dev nD) (t : Fin cfg0.N) : win0_6.cut (grid0.coords t) ((dats m 0 c).after 6 t) = iblk m c 6 t := by
  dsimp only [dats]; exact win0_6.cut_fill _ _ _
theorem cut_after0_7 (c : Dev nD) (t : Fin cfg0.N) : win0_7.cut (grid0.coords t) ((dats m 0 c).after 7 t) = iblk m c 7 t := by
  dsimp only [dats]; exact win0_7.cut_fill _ _ _

/-- Between points: the two scratch buffers at anything and the generator's register at some state. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]; simp only [owns_whole]; try rfl

/-- The body table's row at point `t`'s slots is the body at point `t`. -/
theorem defs₀_row (t : Fin cfg0.N) :
    defs₀ (F := F) .tc cfg0.body (cfg0.bodyArgs t (cfg0.slots t)) = bodyAt0 t := by
  unfold defs₀; rw [Defs.onTc_tc]

/-- The body at point `t`: it finds each input's buffer at its block on the columns inside the array, and leaves it so;
    it leaves something in the result's buffer. -/
theorem body_obligation (c : Dev nD) : BodyObligationLoose (dats m 0 c) (defs₀ (F := F)) Variants.none () Set.univ fgt := fun t => by
  rw [bigSep_W0, bigSep_W0, defs₀_row]
  unfold bodyAt0
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA_eq]
  iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5, before0_6 m c t d6, before0_7 m c t d7]
  iapply (sound_kernel c Set.univ (grid0.coords t) _ _ _ _ _ _ _ _ _ _ _ _ _ _ _ _ _ _ _ _ _ _  (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%d8o, H8⟩, HS0, HS1⟩
  isplitl [HS0 HS1 Hr]
  · isplitl [HS0 HS1]
    · isplitl [HS0]; · iexact HS0
      iexact HS1
    iexact Hr
  isplitl [Ho]; · iexact Ho
  isplitl [H0]; · rw [after0_0]; iexact H0
  isplitl [H1]
  · iexists d1
    change _ ⊢ owns (c : Thread nD τ) (st0_1 t) fullShare (win0_1.fill (grid0.coords t) d1 (win0_1.cut (grid0.coords t) ((dats m 0 c).after 1 t)))
    rw [cut_after0_1]; try iexact H1
  isplitl [H2]
  · iexists d2
    change _ ⊢ owns (c : Thread nD τ) (st0_2 t) fullShare (win0_2.fill (grid0.coords t) d2 (win0_2.cut (grid0.coords t) ((dats m 0 c).after 2 t)))
    rw [cut_after0_2]; try iexact H2
  isplitl [H3]
  · iexists d3
    change _ ⊢ owns (c : Thread nD τ) (st0_3 t) fullShare (win0_3.fill (grid0.coords t) d3 (win0_3.cut (grid0.coords t) ((dats m 0 c).after 3 t)))
    rw [cut_after0_3]; try iexact H3
  isplitl [H4]
  · iexists d4
    change _ ⊢ owns (c : Thread nD τ) (st0_4 t) fullShare (win0_4.fill (grid0.coords t) d4 (win0_4.cut (grid0.coords t) ((dats m 0 c).after 4 t)))
    rw [cut_after0_4]; try iexact H4
  isplitl [H5]
  · iexists d5
    change _ ⊢ owns (c : Thread nD τ) (st0_5 t) fullShare (win0_5.fill (grid0.coords t) d5 (win0_5.cut (grid0.coords t) ((dats m 0 c).after 5 t)))
    rw [cut_after0_5]; try iexact H5
  isplitl [H6]
  · iexists d6
    change _ ⊢ owns (c : Thread nD τ) (st0_6 t) fullShare (win0_6.fill (grid0.coords t) d6 (win0_6.cut (grid0.coords t) ((dats m 0 c).after 6 t)))
    rw [cut_after0_6]; try iexact H6
  isplitl [H7]
  · iexists d7
    change _ ⊢ owns (c : Thread nD τ) (st0_7 t) fullShare (win0_7.fill (grid0.coords t) d7 (win0_7.cut (grid0.coords t) ((dats m 0 c).after 7 t)))
    rw [cut_after0_7]; try iexact H7
  iexists _; iexact H8

set_option backward.isDefEq.respectTransparency.types false in
/-- Every run of the whole program ends, with every counter at zero and every array at what the blocks written back leave. -/
theorem run_main : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
    ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c))⟩, h.2⟩)
    (run_main m ρ)

end Cert.Kernel.Hand

end
-- ==== Proof.Pass.lean ====
module

public import proofs.«01_k».proof.Proof.Gen.KernelIdeal.Loops
public import proofs.«01_k».proof.Proof.Gen.KernelIdeal.Frame
public import Idealize.ShloMosaic.Lib.Pipeline.ValueKit

@[expose] public section

/-! One pass of the kernel's loop over the blocks of 256 weight rows, written as a term built from a few named
steps: the scratch rows of one group, spread over the sixteen weight rows of the group; the sixteen pieces of the
dequantised block; the block's product added to the running sum. -/

set_option maxRecDepth 16384
set_option maxHeartbeats 4000000

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]

/-- One of the two copies a scratch word holds: its row `p` as a row of 128 columns. -/
def half (p : Fin 2) (raw : Vec F S1x1x2x128 .bf16) : FVec F S1x128 .bf16 :=
  shapeCast S1x128 (shapeCast S1x1x128 (rowsOfParity p S1x1x1x128 raw bitcasts_S1x1x2x128_w16_S1x1x1x128_w32) shapeCasts_S1x1x1x128_S1x1x128) shapeCasts_S1x1x128_S1x128

/-- A row of 128 columns, eight times. -/
def rep8 (h : FVec F S1x128 .bf16) : FVec F S8x128 .bf16 :=
  concatenate S8x128 0 [⟨S1x128, h⟩, ⟨S1x128, h⟩, ⟨S1x128, h⟩, ⟨S1x128, h⟩, ⟨S1x128, h⟩, ⟨S1x128, h⟩, ⟨S1x128, h⟩, ⟨S1x128, h⟩] concatenates_S1x128_S1x128_S1x128_S1x128_S1x128_S1x128_S1x128_S1x128_S8x128_d0

/-- The sixteen rows of 128 columns that one scratch word row stands for. -/
def band (raw : Vec F S1x1x2x128 .bf16) : FVec F S16x128 .bf16 :=
  interleaveRows S16x128 (rep8 (half 0 raw)) (rep8 (half 1 raw)) bitcasts_S16x128_w16_S8x128_w32

/-- Four bands side by side: sixteen rows of 512 columns. -/
def row4 (a b c d : Vec F S1x1x2x128 .bf16) : FVec F S16x512 .bf16 :=
  concatenate S16x512 1 [⟨S16x128, band a⟩, ⟨S16x128, band b⟩, ⟨S16x128, band c⟩, ⟨S16x128, band d⟩] concatenates_S16x128_S16x128_S16x128_S16x128_S16x512_d1

/-- The statistics of group `g` of block `k`, read from the pieces just written to a scratch buffer and spread over
the group's sixteen rows. -/
def rowsOf (v : View sig .tc .vmem S4x560x2x128 .bf16) (L : List (View.Piece (Elt F) S4x560x2x128 .bf16)) (k : Fin k0_t1_loop.trips) (g : Fin 16) : FVec F S16x512 .bf16 :=
  row4 (v.readCov L (Rect.unit (s := S4x560x2x128) (k0_off8 k (BitVec.ofNat 32 g.val)) S1x1x2x128.size (k0_off8_inb k g)).toLoadRect)
    (v.readCov L (Rect.unit (s := S4x560x2x128) (k0_off9 k (BitVec.ofNat 32 g.val)) S1x1x2x128.size (k0_off9_inb k g)).toLoadRect)
    (v.readCov L (Rect.unit (s := S4x560x2x128) (k0_off10 k (BitVec.ofNat 32 g.val)) S1x1x2x128.size (k0_off10_inb k g)).toLoadRect)
    (v.readCov L (Rect.unit (s := S4x560x2x128) (k0_off11 k (BitVec.ofNat 32 g.val)) S1x1x2x128.size (k0_off11_inb k g)).toLoadRect)

/-- The four pieces a pass writes to a scratch buffer: the statistics of the block's sixteen groups, each 128 columns
in a slab of its own, every value twice. -/
def slabs (k : Fin k0_t1_loop.trips) (q : Vec F S8x512 .i8) (z s : Vec F S1x512 .f32) : List (View.Piece (Elt F) S4x560x2x128 .bf16) :=
  [⟨Rect.unit (s := S4x560x2x128) (k0_off6 k) S1x16x2x128.size (k0_off6_inb k), k0_pay13 (k0_pay4 q z s) (k0_pay5 q z s)⟩,
   ⟨Rect.unit (s := S4x560x2x128) (k0_off5 k) S1x16x2x128.size (k0_off5_inb k), k0_pay12 (k0_pay4 q z s) (k0_pay5 q z s)⟩,
   ⟨Rect.unit (s := S4x560x2x128) (k0_off4 k) S1x16x2x128.size (k0_off4_inb k), k0_pay11 (k0_pay7 q z s) (k0_pay8 q z s)⟩,
   ⟨Rect.unit (s := S4x560x2x128) (k0_off3 k) S1x16x2x128.size (k0_off3_inb k), k0_pay6 q z s⟩]

/-- Sixteen dequantised weight rows from the codes, the scales and the zero points. -/
def piece (w sb zb : FVec F S16x512 .bf16) : FVec F S16x512 .bf16 := mulf (subf w zb) sb

/-- The dequantised block of 256 weight rows. -/
def wblock (w : FVec F S256x512 .bf16) (sb zb : Fin 16 → FVec F S16x512 .bf16) : FVec F S256x512 .bf16 :=
  concatenate S256x512 0 [⟨S16x512, piece (extractStridedSlice S16x512 ![0, 0] w slices_S256x512_o0_0_S16x512) (sb 0) (zb 0)⟩, ⟨S16x512, piece (extractStridedSlice S16x512 ![16, 0] w slices_S256x512_o16_0_S16x512) (sb 1) (zb 1)⟩, ⟨S16x512, piece (extractStridedSlice S16x512 ![32, 0] w slices_S256x512_o32_0_S16x512) (sb 2) (zb 2)⟩, ⟨S16x512, piece (extractStridedSlice S16x512 ![48, 0] w slices_S256x512_o48_0_S16x512) (sb 3) (zb 3)⟩, ⟨S16x512, piece (extractStridedSlice S16x512 ![64, 0] w slices_S256x512_o64_0_S16x512) (sb 4) (zb 4)⟩, ⟨S16x512, piece (extractStridedSlice S16x512 ![80, 0] w slices_S256x512_o80_0_S16x512) (sb 5) (zb 5)⟩, ⟨S16x512, piece (extractStridedSlice S16x512 ![96, 0] w slices_S256x512_o96_0_S16x512) (sb 6) (zb 6)⟩, ⟨S16x512, piece (extractStridedSlice S16x512 ![112, 0] w slices_S256x512_o112_0_S16x512) (sb 7) (zb 7)⟩, ⟨S16x512, piece (extractStridedSlice S16x512 ![128, 0] w slices_S256x512_o128_0_S16x512) (sb 8) (zb 8)⟩, ⟨S16x512, piece (extractStridedSlice S16x512 ![144, 0] w slices_S256x512_o144_0_S16x512) (sb 9) (zb 9)⟩, ⟨S16x512, piece (extractStridedSlice S16x512 ![160, 0] w slices_S256x512_o160_0_S16x512) (sb 10) (zb 10)⟩, ⟨S16x512, piece (extractStridedSlice S16x512 ![176, 0] w slices_S256x512_o176_0_S16x512) (sb 11) (zb 11)⟩, ⟨S16x512, piece (extractStridedSlice S16x512 ![192, 0] w slices_S256x512_o192_0_S16x512) (sb 12) (zb 12)⟩, ⟨S16x512, piece (extractStridedSlice S16x512 ![208, 0] w slices_S256x512_o208_0_S16x512) (sb 13) (zb 13)⟩, ⟨S16x512, piece (extractStridedSlice S16x512 ![224, 0] w slices_S256x512_o224_0_S16x512) (sb 14) (zb 14)⟩, ⟨S16x512, piece (extractStridedSlice S16x512 ![240, 0] w slices_S256x512_o240_0_S16x512) (sb 15) (zb 15)⟩] concatenates_S16x512_S16x512_S16x512_S16x512_S16x512_S16x512_S16x512_S16x512_S16x512_S16x512_S16x512_S16x512_S16x512_S16x512_S16x512_S16x512_S256x512_d0

/-- The running sum after one pass, from the blocks the pass reads. -/
def passVal (v10 v11 : View sig .tc .vmem S4x560x2x128 .bf16) (k : Fin k0_t1_loop.trips) (x : Vec F S192x256 .bf16) (w : Vec F S128x512 .i8)
    (qs qz : Vec F S8x512 .i8) (ss sz zs zz : Vec F S1x512 .f32) (acc : FVec F S192x512 .f32) : FVec F S192x512 .f32 :=
  k0_pay2 acc (wblock (k0_pay23 w) (rowsOf v10 (slabs k qs sz ss) k) (rowsOf v11 (slabs k qz zz zs) k)) x

/-- What one pass of the loop yields, whatever the scratch buffers held before it. -/
theorem trip_eq (𝒱 : Variants) (c : Dev nD) (bd : Option 𝒱.V) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x2x128 .bf16) (harg10 : arg10.IsWhole) (arg11 : Memref sig .tc .vmem S4x560x2x128 .bf16) (harg11 : arg11.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (acc : FVec F S192x512 .f32) (f_arg10 : BufTy.Contents (Elt F) arg10.view.ty) (f_arg11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 k).1 acc f_arg10 f_arg11
      = passVal arg10.view arg11.view k (View.ld (arg1.view.read (Elt F) X_arg1) (Rect.unit (s := S192x8960) (k0_off12 k) S192x256.size (k0_off12_inb k)))
        (View.ld (arg2.view.read (Elt F) X_arg2) (Rect.unit (s := S4480x512) (k0_off7 k) S128x512.size (k0_off7_inb k)))
        (View.ld (arg3.view.read (Elt F) X_arg3) (Rect.unit (s := S280x512) (k0_off1 k) S8x512.size (k0_off1_inb k)))
        (View.ld (arg4.view.read (Elt F) X_arg4) (Rect.unit (s := S280x512) (k0_off1 k) S8x512.size (k0_off1_inb k)))
        (View.ld (arg5.view.read (Elt F) X_arg5) (Rect.unit (s := S35x512) (k0_off2 k) S1x512.size (k0_off2_inb k)))
        (View.ld (arg6.view.read (Elt F) X_arg6) (Rect.unit (s := S35x512) (k0_off2 k) S1x512.size (k0_off2_inb k)))
        (View.ld (arg7.view.read (Elt F) X_arg7) (Rect.unit (s := S35x512) (k0_off2 k) S1x512.size (k0_off2_inb k)))
        (View.ld (arg8.view.read (Elt F) X_arg8) (Rect.unit (s := S35x512) (k0_off2 k) S1x512.size (k0_off2_inb k))) acc := by
  unfold trip_k0_t1
  rfl

end Cert.KernelIdeal.Hand

end
-- ==== Proof.Spec.lean ====
module

public import Idealize.ShloMosaic.Lib.Pointwise

@[expose] public section

/-! The mathematics of the dequantised product, one output element at a time, over the reals extended by the
infinities: a column of packed weight codes, a column of each packed statistics array and a column of each
second-level statistics array give the column's weights; a row of activations times that column is the element. -/

noncomputable section

namespace Cert.Spec

open Idealize.ShloMosaic

/-- A 32-bit word as the integer it stands for. -/
def num (b : BitVec 32) : EReal := ((b.toInt : ℝ) : EReal)

/-- A three-bit statistics code: the low nibble's for an even group, the high nibble's for an odd one. -/
def code3 (b : BitVec 8) (p : ℕ) : BitVec 32 :=
  if p = 0 then b.setWidth 32 &&& 7#32 else ((b.setWidth 32).sshiftRight 4) &&& 7#32

/-- A four-bit weight code: the low nibble for an even weight row, the high nibble for an odd one. -/
def code4 (b : BitVec 8) (p : ℕ) : BitVec 32 :=
  if p = 0 then b.setWidth 32 &&& 15#32 else ((b.setWidth 32).sshiftRight 4) &&& 15#32

/-- The statistic of group `g` of sixteen weight rows: its code less the block's second-level zero point, times the
block's second-level scale; a block is sixteen groups. -/
def stat (q : Fin 280 → BitVec 8) (s z : Fin 35 → EReal) (g : Fin 560) : EReal :=
  (num (code3 (q ⟨g.val / 2, by omega⟩) (g.val % 2)) - z ⟨g.val / 16, by omega⟩) * s ⟨g.val / 16, by omega⟩

/-- Weight row `R`: its code less its group's zero point, times its group's scale. -/
def wt (w : Fin 4480 → BitVec 8) (sc ze : Fin 560 → EReal) (R : Fin 8960) : EReal :=
  (num (code4 (w ⟨R.val / 2, by omega⟩) (R.val % 2)) - ze ⟨R.val / 16, by omega⟩) * sc ⟨R.val / 16, by omega⟩

/-- One element of the product. -/
def out (x : Fin 8960 → EReal) (w : Fin 4480 → BitVec 8) (sc ze : Fin 560 → EReal) : EReal :=
  ∑ R, x R * wt w sc ze R

/-- The part of the product that block `k` of 256 weight rows contributes. -/
def blk (x : Fin 8960 → EReal) (w : Fin 4480 → BitVec 8) (sc ze : Fin 560 → EReal) (k : Fin 35) : EReal :=
  ∑ r : Fin 256, x ⟨256 * k.val + r.val, by omega⟩ * wt w sc ze ⟨256 * k.val + r.val, by omega⟩

/-- The element is the sum of the blocks' parts. -/
theorem out_eq_blk (x : Fin 8960 → EReal) (w : Fin 4480 → BitVec 8) (sc ze : Fin 560 → EReal) :
    out x w sc ze = ∑ k, blk x w sc ze k := by
  unfold out blk
  rw [Fin.sum_univ_tiles 35 256 rfl]
  refine Finset.sum_congr rfl fun k _ => Finset.sum_congr rfl fun r _ => ?_
  have h : (⟨k.val * 256 + r.val, by omega⟩ : Fin 8960) = ⟨256 * k.val + r.val, by omega⟩ := Fin.ext (by simp only; omega)
  rw [← h]

/-- The element is the even weight rows' part plus the odd ones'. -/
theorem out_eq_parity (x : Fin 8960 → EReal) (w : Fin 4480 → BitVec 8) (sc ze : Fin 560 → EReal) :
    out x w sc ze = ∑ i : Fin 4480, x ⟨2 * i.val, by omega⟩ * wt w sc ze ⟨2 * i.val, by omega⟩
      + ∑ i : Fin 4480, x ⟨2 * i.val + 1, by omega⟩ * wt w sc ze ⟨2 * i.val + 1, by omega⟩ := by
  unfold out
  rw [Fin.sum_univ_tiles 4480 2 rfl, ← Finset.sum_add_distrib]
  refine Finset.sum_congr rfl fun i _ => ?_
  rw [Fin.sum_univ_two]
  have h0 : (⟨i.val * 2 + (0 : Fin 2).val, by simp only [Fin.val_zero]; omega⟩ : Fin 8960) = ⟨2 * i.val, by omega⟩ := Fin.ext (by simp only [Fin.val_zero]; omega)
  have h1 : (⟨i.val * 2 + (1 : Fin 2).val, by simp only [Fin.val_one]; omega⟩ : Fin 8960) = ⟨2 * i.val + 1, by omega⟩ := Fin.ext (by simp only [Fin.val_one]; omega)
  rw [← h0, ← h1]

end Cert.Spec

end
-- ==== Proof.PassValue.lean ====
module

public import proofs.«01_k».proof.Proof.Pass
public import proofs.«01_k».proof.Proof.Spec
public import Idealize.ShloMosaic.Lib.Pointwise

@[expose] public section

set_option maxRecDepth 16384
set_option maxHeartbeats 1000000

noncomputable section

namespace Cert.KernelIdeal.Hand

open Idealize.ShloMosaic Idealize.ShloMosaic.TcCoe Idealize.SL Idealize.SL.Sem
open Cert.KernelIdeal Cert.KernelIdeal.Gen

/-- A row of a scratch word, read at a column. -/
theorem half_apply (p : Fin 2) (raw : Vec Ideal S1x1x2x128 .bf16) (a : Fin 1) (l : Fin 128) :
    half p raw (ix2 a l) = raw (ix4 0 0 p l) := by
  pointwise [half]

/-- Every one of the eight copies is the row. -/
theorem rep8_apply (h : FVec Ideal S1x128 .bf16) (r : Fin 8) (l : Fin 128) :
    rep8 h (ix2 r l) = h (ix2 0 l) := by
  pointwise [rep8]
  have e : ∀ a : Fin 1, h (ix2 a l) = h (ix2 0 l) := fun a => by rw [Subsingleton.elim a 0]
  simp only [e, dite_eq_ite, ite_self]

/-- Row `r` of a band is the scratch word's copy of `r`'s parity. -/
theorem band_apply (raw : Vec Ideal S1x1x2x128 .bf16) (r : Fin 16) (l : Fin 128) :
    band raw (ix2 r l) = raw (ix4 0 0 ⟨r.val % 2, by omega⟩ l) := by
  pointwise [band, rep8_apply, half_apply]
  rcases Nat.mod_two_eq_zero_or_one r.val with h | h
  · rw [if_pos h]; exact congrArg (fun p => raw (ix4 0 0 p l)) (Fin.ext h.symm)
  · rw [if_neg (by omega)]; exact congrArg (fun p => raw (ix4 0 0 p l)) (Fin.ext h.symm)

/-- Four bands whose words hold, at either parity, the columns of one function of the column. -/
theorem row4_apply (f : Fin 512 → EReal) (a b c d : Vec Ideal S1x1x2x128 .bf16)
    (ha : ∀ (p : Fin 2) (l : Fin 128), a (ix4 0 0 p l) = f ⟨l.val, by omega⟩)
    (hb : ∀ (p : Fin 2) (l : Fin 128), b (ix4 0 0 p l) = f ⟨128 + l.val, by omega⟩)
    (hc : ∀ (p : Fin 2) (l : Fin 128), c (ix4 0 0 p l) = f ⟨256 + l.val, by omega⟩)
    (hd : ∀ (p : Fin 2) (l : Fin 128), d (ix4 0 0 p l) = f ⟨384 + l.val, by omega⟩) (r : Fin 16) (l : Fin 512) :
    row4 a b c d (ix2 r l) = f l := by
  pointwise [row4, band_apply]
  by_cases h0 : l.val < 128
  · rw [dif_pos h0, ha]
  rw [dif_neg h0]
  by_cases h1 : l.val - 128 < 128
  · rw [dif_pos h1, hb]; exact congrArg f (Fin.ext (by simp only; omega))
  rw [dif_neg h1]
  by_cases h2 : l.val - 128 - 128 < 128
  · rw [dif_pos h2, hc]; exact congrArg f (Fin.ext (by simp only; omega))
  rw [dif_neg h2, hd]; exact congrArg f (Fin.ext (by simp only; omega))

theorem code4_lo : ∀ b : BitVec 8, IntOp.andi (BitVec.setWidth 32 b) 15#32 = Spec.code4 b 0 := fun b => rfl

theorem code4_hi : ∀ b : BitVec 8, IntOp.shrsi ArithUnit.vector (BitVec.setWidth 32 b) 4#32 = Spec.code4 b 1 := by
  decide +kernel

theorem code3_lo : ∀ b : BitVec 8, IntOp.andi (BitVec.setWidth 32 (IntOp.andi b 119#8)) 15#32 = Spec.code3 b 0 := by
  decide +kernel

theorem code3_hi : ∀ b : BitVec 8, IntOp.shrsi ArithUnit.vector (BitVec.setWidth 32 (IntOp.andi b 119#8)) 4#32 = Spec.code3 b 1 := by
  decide +kernel

/-- The codes of a block of weights: weight row `r`'s sits in byte row `r / 2`, in the nibble of `r`'s parity. -/
theorem pay23_apply (w : Vec Ideal S128x512 .i8) (r : Fin 256) (n : Fin 512) :
    k0_pay23 (F := Ideal) w (ix2 r n) = Spec.num (Spec.code4 (w (ix2 ⟨r.val / 2, by omega⟩ n)) (r.val % 2)) := by
  pointwise [k0_pay23]
  rcases Nat.mod_two_eq_zero_or_one r.val with h | h
  · rw [dif_pos (by omega), code4_lo]; exact congrArg (fun e => Spec.num (Spec.code4 (w (ix2 ⟨r.val / 2, by omega⟩ n)) e)) h.symm
  · rw [dif_neg (by omega), code4_hi]; exact congrArg (fun e => Spec.num (Spec.code4 (w (ix2 ⟨r.val / 2, by omega⟩ n)) e)) h.symm

/-- The statistics of a block's sixteen groups. -/
theorem pay3_apply (q : Vec Ideal S8x512 .i8) (z s : Vec Ideal S1x512 .f32) (r : Fin 16) (n : Fin 512) :
    k0_pay3 (F := Ideal) q z s (ix2 r n)
      = (Spec.num (Spec.code3 (q (ix2 ⟨r.val / 2, by omega⟩ n)) (r.val % 2)) - z (ix2 0 n)) * s (ix2 0 n) := by
  pointwise [k0_pay3]
  rcases Nat.mod_two_eq_zero_or_one r.val with h | h
  · rw [dif_pos (by omega), code3_lo]; exact congrArg (fun e => (Spec.num (Spec.code3 (q (ix2 ⟨r.val / 2, by omega⟩ n)) e) - z (ix2 0 n)) * s (ix2 0 n)) h.symm
  · rw [dif_neg (by omega), code3_hi]; exact congrArg (fun e => (Spec.num (Spec.code3 (q (ix2 ⟨r.val / 2, by omega⟩ n)) e) - z (ix2 0 n)) * s (ix2 0 n)) h.symm

theorem pay6_apply (q : Vec Ideal S8x512 .i8) (z s : Vec Ideal S1x512 .f32) (a : Fin 1) (r : Fin 16) (p : Fin 2) (l : Fin 128) :
    k0_pay6 (F := Ideal) q z s (ix4 a r p l) = k0_pay3 (F := Ideal) q z s (ix2 r ⟨l.val, by omega⟩) := by
  pointwise [k0_pay6, k0_pay5, k0_pay4]
  exact ite_self _

theorem pay11_apply (q : Vec Ideal S8x512 .i8) (z s : Vec Ideal S1x512 .f32) (a : Fin 1) (r : Fin 16) (p : Fin 2) (l : Fin 128) :
    k0_pay11 (k0_pay7 q z s) (k0_pay8 q z s) (ix4 a r p l) = k0_pay3 (F := Ideal) q z s (ix2 r ⟨128 + l.val, by omega⟩) := by
  pointwise [k0_pay11, k0_pay7, k0_pay8, k0_pay5, k0_pay4]
  exact ite_self _

theorem pay12_apply (q : Vec Ideal S8x512 .i8) (z s : Vec Ideal S1x512 .f32) (a : Fin 1) (r : Fin 16) (p : Fin 2) (l : Fin 128) :
    k0_pay12 (k0_pay4 q z s) (k0_pay5 q z s) (ix4 a r p l) = k0_pay3 (F := Ideal) q z s (ix2 r ⟨256 + l.val, by omega⟩) := by
  pointwise [k0_pay12, k0_pay5, k0_pay4]
  exact ite_self _

theorem pay13_apply (q : Vec Ideal S8x512 .i8) (z s : Vec Ideal S1x512 .f32) (a : Fin 1) (r : Fin 16) (p : Fin 2) (l : Fin 128) :
    k0_pay13 (k0_pay4 q z s) (k0_pay5 q z s) (ix4 a r p l) = k0_pay3 (F := Ideal) q z s (ix2 r ⟨384 + l.val, by omega⟩) := by
  pointwise [k0_pay13, k0_pay5, k0_pay4]
  exact ite_self _

/-- The running sum and the block's product. -/
theorem pay2_apply (acc : FVec Ideal S192x512 .f32) (w : FVec Ideal S256x512 .bf16) (x : Vec Ideal S192x256 .bf16) (t : Fin 192) (n : Fin 512) :
    k0_pay2 (F := Ideal) acc w x (ix2 t n) = acc (ix2 t n) + ∑ r : Fin 256, x (ix2 t r) * w (ix2 r n) := by
  pointwise [k0_pay2]

theorem trips_lt (k : Fin k0_t1_loop.trips) : k.val < 35 := Nat.lt_of_lt_of_le k.isLt k0_t1_abs.2.1

/-- What a scratch row of one group holds after the pass's stores: the group's statistics at the slab's 128 columns,
the same at either copy. -/
theorem read_slabs (v : View sig .tc .vmem S4x560x2x128 .bf16) (k : Fin k0_t1_loop.trips) (q : Vec Ideal S8x512 .i8) (z s : Vec Ideal S1x512 .f32)
    (j : Fin 4) (g : Fin 16) (off : Fin 4 → ℕ) (hoff : off = ![j.val, 16 * k.val + g.val, 0, 0]) (inb : ∀ a, off a + S1x1x2x128.size a ≤ S4x560x2x128.size a)
    (p : Fin 2) (l : Fin 128) :
    v.readCov (slabs (F := Ideal) k q z s) (Rect.unit (s := S4x560x2x128) off S1x1x2x128.size inb).toLoadRect (ix4 0 0 p l)
      = k0_pay3 (F := Ideal) q z s (ix2 g ⟨128 * j.val + l.val, by omega⟩) := by
  subst hoff
  have hk := trips_lt k
  rw [View.readCov_eq_canon']
  let G : S4x560x2x128.Idx → EReal := fun y => k0_pay3 (F := Ideal) q z s
    (ix2 ⟨((y 1).val - 16 * k.val) % 16, Nat.mod_lt _ (by decide)⟩
      ⟨128 * (y 0).val + (y 3).val, by have h0 : (y 0).val < 4 := (y 0).isLt; have h3 : (y 3).val < 128 := (y 3).isLt; omega⟩)
  have hG : ∀ P ∈ slabs (F := Ideal) k q z s, ∀ x : P.1.shape.Idx, P.2 x = G (P.1.emb x) := by
    have key : ∀ (i : Fin 4) (o : Fin 4 → ℕ) (ho : o = ![i.val, 16 * k.val, 0, 0]) (hi : ∀ a, o a + S1x16x2x128.size a ≤ S4x560x2x128.size a)
        (pay : S1x16x2x128.Idx → EReal)
        (hpay : ∀ (a : Fin 1) (r : Fin 16) (p : Fin 2) (l : Fin 128), pay (ix4 a r p l) = k0_pay3 (F := Ideal) q z s (ix2 r ⟨128 * i.val + l.val, by omega⟩))
        (x : S1x16x2x128.Idx), pay x = G ((Rect.unit (s := S4x560x2x128) o S1x16x2x128.size hi).emb x) := by
      intro i o ho hi pay hpay x
      subst ho
      obtain ⟨a, r, p, l, rfl⟩ : ∃ (a : Fin 1) (r : Fin 16) (p : Fin 2) (l : Fin 128), x = ix4 a r p l := ⟨x 0, x 1, x 2, x 3, (ix4_eta x).symm⟩
      rw [hpay]
      refine congrArg (k0_pay3 (F := Ideal) q z s) ((ix2_inj ..).2 ⟨Fin.ext ?_, Fin.ext ?_⟩)
      · show r.val = (16 * k.val + 1 * r.val - 16 * k.val) % 16
        omega
      · show 128 * i.val + l.val = 128 * (i.val + 1 * a.val) + (0 + 1 * l.val)
        omega
    intro P hP
    simp only [slabs, List.mem_cons, List.mem_nil_iff, or_false] at hP
    rcases hP with rfl | rfl | rfl | rfl
    · exact key 3 _ (k0_off6_eq k) (k0_off6_inb k) _ (pay13_apply q z s)
    · exact key 2 _ (k0_off5_eq k) (k0_off5_inb k) _ (pay12_apply q z s)
    · exact key 1 _ (k0_off4_eq k) (k0_off4_inb k) _ (pay11_apply q z s)
    · refine key 0 _ (k0_off3_eq k) (k0_off3_inb k) _ fun a r p l => (pay6_apply q z s a r p l).trans ?_
      exact congrArg (k0_pay3 (F := Ideal) q z s) ((ix2_inj ..).2 ⟨rfl, Fin.ext (by simp)⟩)
  have hmem : ∃ P ∈ slabs (F := Ideal) k q z s,
      (Rect.unit (s := S4x560x2x128) ![j.val, 16 * k.val + g.val, 0, 0] S1x1x2x128.size inb).toLoadRect.idx (ix4 0 0 p l) ∈ P.1.set := by
    have key : ∀ (o : Fin 4 → ℕ) (ho : o = ![j.val, 16 * k.val, 0, 0]) (hi : ∀ a, o a + S1x16x2x128.size a ≤ S4x560x2x128.size a),
        (Rect.unit (s := S4x560x2x128) ![j.val, 16 * k.val + g.val, 0, 0] S1x1x2x128.size inb).toLoadRect.idx (ix4 0 0 p l)
          ∈ (Rect.unit (s := S4x560x2x128) o S1x16x2x128.size hi).set := by
      intro o ho hi
      subst ho
      rw [Rect.mem_set_unit]
      intro a
      match a with
      | ⟨0, _⟩ => exact ⟨show j.val ≤ j.val + 1 * 0 by omega, show j.val + 1 * 0 < j.val + 1 by omega⟩
      | ⟨1, _⟩ => exact ⟨show 16 * k.val ≤ 16 * k.val + g.val + 1 * 0 by omega, show 16 * k.val + g.val + 1 * 0 < 16 * k.val + 16 by omega⟩
      | ⟨2, _⟩ => exact ⟨show 0 ≤ 0 + 1 * p.val by omega, show 0 + 1 * p.val < 0 + 2 by omega⟩
      | ⟨3, _⟩ => exact ⟨show 0 ≤ 0 + 1 * l.val by omega, show 0 + 1 * l.val < 0 + 128 by omega⟩
    match j with
    | ⟨0, _⟩ => exact ⟨_, List.mem_cons_of_mem _ (List.mem_cons_of_mem _ (List.mem_cons_of_mem _ List.mem_cons_self)), key _ (k0_off3_eq k) (k0_off3_inb k)⟩
    | ⟨1, _⟩ => exact ⟨_, List.mem_cons_of_mem _ (List.mem_cons_of_mem _ List.mem_cons_self), key _ (k0_off4_eq k) (k0_off4_inb k)⟩
    | ⟨2, _⟩ => exact ⟨_, List.mem_cons_of_mem _ List.mem_cons_self, key _ (k0_off5_eq k) (k0_off5_inb k)⟩
    | ⟨3, _⟩ => exact ⟨_, List.mem_cons_self, key _ (k0_off6_eq k) (k0_off6_inb k)⟩
  refine (View.canon_apply_of_pieces G _ hG _ hmem).trans ?_
  refine congrArg (k0_pay3 (F := Ideal) q z s) ((ix2_inj ..).2 ⟨Fin.ext ?_, Fin.ext ?_⟩)
  · show (16 * k.val + g.val + 1 * 0 - 16 * k.val) % 16 = g.val
    omega
  · show 128 * (j.val + 1 * 0) + (0 + 1 * l.val) = 128 * j.val + l.val
    omega

/-- The spread statistics of group `g`: every one of its sixteen rows is the group's statistics. -/
theorem rowsOf_apply (v : View sig .tc .vmem S4x560x2x128 .bf16) (k : Fin k0_t1_loop.trips) (q : Vec Ideal S8x512 .i8) (z s : Vec Ideal S1x512 .f32)
    (g r : Fin 16) (n : Fin 512) :
    rowsOf v (slabs (F := Ideal) k q z s) k g (ix2 r n) = k0_pay3 (F := Ideal) q z s (ix2 g n) := by
  unfold rowsOf
  refine row4_apply (fun n => k0_pay3 (F := Ideal) q z s (ix2 g n)) _ _ _ _ (fun p l => ?_) (fun p l => ?_) (fun p l => ?_) (fun p l => ?_) r n
  · refine (read_slabs v k q z s 0 g _ (k0_off8_eq k g) _ p l).trans ?_
    exact congrArg (k0_pay3 (F := Ideal) q z s) ((ix2_inj ..).2 ⟨rfl, Fin.ext (by simp)⟩)
  · exact read_slabs v k q z s 1 g _ (k0_off9_eq k g) _ p l
  · exact read_slabs v k q z s 2 g _ (k0_off10_eq k g) _ p l
  · exact read_slabs v k q z s 3 g _ (k0_off11_eq k g) _ p l

end Cert.KernelIdeal.Hand

end
-- ==== Proof.Block.lean ====
module

public import proofs.«01_k».proof.Proof.PassValue
public import Idealize.ShloMosaic.Lib.Pointwise

@[expose] public section

set_option maxRecDepth 16384
set_option maxHeartbeats 1000000

noncomputable section

namespace Cert.KernelIdeal.Hand

open Idealize.ShloMosaic Idealize.ShloMosaic.TcCoe Idealize.SL Idealize.SL.Sem
open Cert.KernelIdeal Cert.KernelIdeal.Gen

/-- One sixteen-row piece of the dequantised block. -/
theorem piece_apply (w sb zb : FVec Ideal S16x512 .bf16) (r : Fin 16) (n : Fin 512) :
    piece w sb zb (ix2 r n) = (w (ix2 r n) - zb (ix2 r n)) * sb (ix2 r n) := by
  pointwise [piece]

theorem slices_all : ∀ g : Fin 16, S256x512.Slices ![16 * g.val, 0] S16x512 := by decide

/-- Piece `g` of the dequantised block. -/
def bandOf (w : FVec Ideal S256x512 .bf16) (sb zb : Fin 16 → FVec Ideal S16x512 .bf16) (g : Fin 16) : FVec Ideal S16x512 .bf16 :=
  piece (extractStridedSlice S16x512 ![16 * g.val, 0] w (slices_all g)) (sb g) (zb g)

/-- Row `R` of the dequantised block is its code less the zero point of group `R / 16`, times that group's scale. -/
theorem wblock_apply (w : FVec Ideal S256x512 .bf16) (sb zb : Fin 16 → FVec Ideal S16x512 .bf16) (n : Fin 512) (S Z : Fin 16 → EReal)
    (hS : ∀ g r, sb g (ix2 r n) = S g) (hZ : ∀ g r, zb g (ix2 r n) = Z g) (R : Fin 256) :
    wblock w sb zb (ix2 R n) = (w (ix2 R n) - Z ⟨R.val / 16, by omega⟩) * S ⟨R.val / 16, by omega⟩ := by
  have e : wblock w sb zb = concatenate S256x512 0 (List.ofFn fun g : Fin 16 => (⟨S16x512, bandOf w sb zb g⟩ : (s : Shape) × (s.Idx → EReal)))
      concatenates_S16x512_S16x512_S16x512_S16x512_S16x512_S16x512_S16x512_S16x512_S16x512_S16x512_S16x512_S16x512_S16x512_S16x512_S16x512_S16x512_S256x512_d0 := by
    unfold wblock; rfl
  rw [e]
  refine (concatenate_ofFn_apply (t := S256x512) (s₁ := S16x512) 0 (bandOf w sb zb) _ rfl 16 rfl (ix2 R n) (⟨R.val / 16, by omega⟩ : Fin 16) rfl
    (ix2 ⟨R.val % 16, Nat.mod_lt _ (by decide)⟩ n) rfl (fun b hb => ?_)).trans ?_
  · match b, hb with
    | ⟨0, _⟩, hb => exact absurd rfl hb
    | ⟨1, _⟩, _ => rfl
  unfold bandOf
  rw [piece_apply, hS, hZ]
  refine congrArg (fun a => (a - Z ⟨R.val / 16, by omega⟩) * S ⟨R.val / 16, by omega⟩) ?_
  refine congrArg w (funext fun a => ?_)
  match a with
  | ⟨0, _⟩ => exact Fin.ext (show 16 * (R.val / 16) + R.val % 16 = R.val by omega)
  | ⟨1, _⟩ => exact Fin.ext (show 0 + n.val = n.val by omega)

/-- One pass adds, at row `t` and column `n`, the part of the product that its 256 weight rows contribute. -/
theorem passVal_apply (v10 v11 : View sig .tc .vmem S4x560x2x128 .bf16) (k : Fin k0_t1_loop.trips) (x : Vec Ideal S192x256 .bf16) (w : Vec Ideal S128x512 .i8)
    (qs qz : Vec Ideal S8x512 .i8) (ss sz zs zz : Vec Ideal S1x512 .f32) (acc : FVec Ideal S192x512 .f32) (t : Fin 192) (n : Fin 512)
    (X : Fin 8960 → EReal) (W : Fin 4480 → BitVec 8) (QS QZ : Fin 280 → BitVec 8) (SS SZ ZS ZZ : Fin 35 → EReal) (hk : k.val < 35)
    (hx : ∀ r : Fin 256, x (ix2 t r) = X ⟨256 * k.val + r.val, by omega⟩)
    (hw : ∀ r : Fin 128, w (ix2 r n) = W ⟨128 * k.val + r.val, by omega⟩)
    (hqs : ∀ r : Fin 8, qs (ix2 r n) = QS ⟨8 * k.val + r.val, by omega⟩)
    (hqz : ∀ r : Fin 8, qz (ix2 r n) = QZ ⟨8 * k.val + r.val, by omega⟩)
    (hss : ss (ix2 0 n) = SS ⟨k.val, hk⟩) (hsz : sz (ix2 0 n) = SZ ⟨k.val, hk⟩)
    (hzs : zs (ix2 0 n) = ZS ⟨k.val, hk⟩) (hzz : zz (ix2 0 n) = ZZ ⟨k.val, hk⟩) :
    passVal v10 v11 k x w qs qz ss sz zs zz acc (ix2 t n)
      = acc (ix2 t n) + Spec.blk X W (Spec.stat QS SS SZ) (Spec.stat QZ ZS ZZ) ⟨k.val, hk⟩ := by
  unfold passVal
  rw [pay2_apply]
  refine congrArg (acc (ix2 t n) + ·) (Finset.sum_congr rfl fun r _ => ?_)
  have st : ∀ (q : Vec Ideal S8x512 .i8) (s z : Vec Ideal S1x512 .f32) (Q : Fin 280 → BitVec 8) (S Z : Fin 35 → EReal)
      (hq : ∀ r : Fin 8, q (ix2 r n) = Q ⟨8 * k.val + r.val, by omega⟩) (hs : s (ix2 0 n) = S ⟨k.val, hk⟩) (hz : z (ix2 0 n) = Z ⟨k.val, hk⟩)
      (g : Fin 16) (G : Fin 560) (hG : G.val = 16 * k.val + g.val),
      k0_pay3 (F := Ideal) q z s (ix2 g n) = Spec.stat Q S Z G := by
    intro q s z Q S Z hq hs hz g G hG
    rw [pay3_apply, hq, hs, hz]
    unfold Spec.stat
    have e : (⟨k.val, hk⟩ : Fin 35) = ⟨G.val / 16, by omega⟩ := Fin.ext (by simp only; omega)
    rw [e]
    refine congrArg (fun a => (a - Z ⟨G.val / 16, by omega⟩) * S ⟨G.val / 16, by omega⟩) ?_
    exact congrArg₂ (fun a b => Spec.num (Spec.code3 (Q a) b)) (Fin.ext (by simp only; omega)) (by omega)
  rw [hx, wblock_apply _ _ _ n (fun g => k0_pay3 (F := Ideal) qs sz ss (ix2 g n)) (fun g => k0_pay3 (F := Ideal) qz zz zs (ix2 g n))
    (fun g r => rowsOf_apply v10 k qs sz ss g r n) (fun g r => rowsOf_apply v11 k qz zz zs g r n), pay23_apply, hw]
  unfold Spec.wt
  refine congrArg (X _ * ·) (congrArg₂ (· * ·) (congrArg₂ (· - ·) ?_ ?_) ?_)
  · exact congrArg₂ (fun a b => Spec.num (Spec.code4 (W a) b)) (Fin.ext (by simp only; omega)) (by simp only; omega)
  · exact st qz zs zz QZ ZS ZZ hqz hzs hzz _ _ (by simp only; omega)
  · exact st qs ss sz QS SS SZ hqs hss hsz _ _ (by simp only; omega)

/-- A load of rows `o` onwards, all columns, read at a row and column. -/
theorem ld_rows {R N m : ℕ} {ty : EltTy} (V : (⟨2, ![R, N]⟩ : Shape).Idx → Elt Ideal ty) (off : Fin 2 → ℕ) (o : ℕ) (h : off = ![o, 0])
    (inb : ∀ a, off a + (⟨2, ![m, N]⟩ : Shape).size a ≤ (⟨2, ![R, N]⟩ : Shape).size a) (r : Fin m) (n : Fin N) (hr : o + r.val < R) :
    View.ld (Val := Elt Ideal) (e' := ty) V (Rect.unit (s := ⟨2, ![R, N]⟩) off (⟨2, ![m, N]⟩ : Shape).size inb) (ix2 r n) = V (ix2 ⟨o + r.val, hr⟩ n) := by
  subst h
  refine congrArg V (funext fun a => ?_)
  match a with
  | ⟨0, _⟩ => exact Fin.ext (show o + 1 * r.val = o + r.val by omega)
  | ⟨1, _⟩ => exact Fin.ext (show 0 + 1 * n.val = n.val by omega)

/-- A load of columns `o` onwards, all rows, read at a row and column. -/
theorem ld_cols {R N m : ℕ} {ty : EltTy} (V : (⟨2, ![R, N]⟩ : Shape).Idx → Elt Ideal ty) (off : Fin 2 → ℕ) (o : ℕ) (h : off = ![0, o])
    (inb : ∀ a, off a + (⟨2, ![R, m]⟩ : Shape).size a ≤ (⟨2, ![R, N]⟩ : Shape).size a) (r : Fin R) (n : Fin m) (hn : o + n.val < N) :
    View.ld (Val := Elt Ideal) (e' := ty) V (Rect.unit (s := ⟨2, ![R, N]⟩) off (⟨2, ![R, m]⟩ : Shape).size inb) (ix2 r n) = V (ix2 r ⟨o + n.val, hn⟩) := by
  subst h
  refine congrArg V (funext fun a => ?_)
  match a with
  | ⟨0, _⟩ => exact Fin.ext (show 0 + 1 * r.val = r.val by omega)
  | ⟨1, _⟩ => exact Fin.ext (show o + 1 * n.val = o + n.val by omega)

end Cert.KernelIdeal.Hand

end
-- ==== Proof.Sweep.lean ====
module

public import proofs.«01_k».proof.Proof.Block
public import Idealize.ShloMosaic.Lib.Pointwise

@[expose] public section

set_option maxRecDepth 16384
set_option maxHeartbeats 1000000

noncomputable section

namespace Cert.KernelIdeal.Hand

open Idealize.ShloMosaic Idealize.ShloMosaic.TcCoe Idealize.SL Idealize.SL.Sem
open Cert.KernelIdeal Cert.KernelIdeal.Gen

/-- One trip of the loop adds, at row `t` and column `n`, the part of the product that its 256 weight rows contribute. -/
theorem trip_apply (𝒱 : Variants) (c : Dev nD) (bd : Option 𝒱.V) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x2x128 .bf16) (harg10 : arg10.IsWhole) (arg11 : Memref sig .tc .vmem S4x560x2x128 .bf16) (harg11 : arg11.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips)
    (acc : FVec Ideal S192x512 .f32) (f_arg10 : BufTy.Contents (Elt Ideal) arg10.view.ty) (f_arg11 : BufTy.Contents (Elt Ideal) arg11.view.ty) (t : Fin 192) (n : Fin 512) :
    (trip_k0_t1 (F := Ideal) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 k).1 acc f_arg10 f_arg11 (ix2 t n)
      = acc (ix2 t n) + Spec.blk (fun R => arg1.view.read (Elt Ideal) X_arg1 (ix2 t R)) (fun R => arg2.view.read (Elt Ideal) X_arg2 (ix2 R n)) (Spec.stat (fun R => arg3.view.read (Elt Ideal) X_arg3 (ix2 R n)) (fun R => arg5.view.read (Elt Ideal) X_arg5 (ix2 R n)) (fun R => arg6.view.read (Elt Ideal) X_arg6 (ix2 R n))) (Spec.stat (fun R => arg4.view.read (Elt Ideal) X_arg4 (ix2 R n)) (fun R => arg7.view.read (Elt Ideal) X_arg7 (ix2 R n)) (fun R => arg8.view.read (Elt Ideal) X_arg8 (ix2 R n))) ⟨k.val, trips_lt k⟩ := by
  have hk := trips_lt k
  rw [trip_eq]
  refine passVal_apply _ _ k _ _ _ _ _ _ _ _ acc t n (fun R => arg1.view.read (Elt Ideal) X_arg1 (ix2 t R)) (fun R => arg2.view.read (Elt Ideal) X_arg2 (ix2 R n))
    (fun R => arg3.view.read (Elt Ideal) X_arg3 (ix2 R n)) (fun R => arg4.view.read (Elt Ideal) X_arg4 (ix2 R n)) (fun R => arg5.view.read (Elt Ideal) X_arg5 (ix2 R n)) (fun R => arg6.view.read (Elt Ideal) X_arg6 (ix2 R n))
    (fun R => arg7.view.read (Elt Ideal) X_arg7 (ix2 R n)) (fun R => arg8.view.read (Elt Ideal) X_arg8 (ix2 R n)) hk ?_ ?_ ?_ ?_ ?_ ?_ ?_ ?_
  · exact fun r => ld_cols _ _ _ (k0_off12_eq k) _ t r _
  · exact fun r => ld_rows _ _ _ (k0_off7_eq k) _ r n _
  · exact fun r => ld_rows _ _ _ (k0_off1_eq k) _ r n _
  · exact fun r => ld_rows _ _ _ (k0_off1_eq k) _ r n _
  · exact ld_rows _ _ _ (k0_off2_eq k) _ 0 n hk
  · exact ld_rows _ _ _ (k0_off2_eq k) _ 0 n hk
  · exact ld_rows _ _ _ (k0_off2_eq k) _ 0 n hk
  · exact ld_rows _ _ _ (k0_off2_eq k) _ 0 n hk

theorem trips_eq : k0_t1_loop.trips = 35 := by decide +kernel

/-- Before trip `j` the loop carries its initial value plus the parts of the trips before. -/
theorem sweep_upto (𝒱 : Variants) (c : Dev nD) (bd : Option 𝒱.V) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x2x128 .bf16) (harg10 : arg10.IsWhole) (arg11 : Memref sig .tc .vmem S4x560x2x128 .bf16) (harg11 : arg11.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
    (G10 : BufTy.Contents (Elt Ideal) arg10.view.ty) (G11 : BufTy.Contents (Elt Ideal) arg11.view.ty) (init : FVec Ideal S192x512 .f32) (t : Fin 192) (n : Fin 512) (j : ℕ) (hj : j ≤ k0_t1_loop.trips) :
    (st_k0_t1 (F := Ideal) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 G10 G11 init j).1 (ix2 t n)
      = init (ix2 t n) + ∑ k ∈ Finset.range j, (if h : k < 35 then Spec.blk (fun R => arg1.view.read (Elt Ideal) X_arg1 (ix2 t R)) (fun R => arg2.view.read (Elt Ideal) X_arg2 (ix2 R n)) (Spec.stat (fun R => arg3.view.read (Elt Ideal) X_arg3 (ix2 R n)) (fun R => arg5.view.read (Elt Ideal) X_arg5 (ix2 R n)) (fun R => arg6.view.read (Elt Ideal) X_arg6 (ix2 R n))) (Spec.stat (fun R => arg4.view.read (Elt Ideal) X_arg4 (ix2 R n)) (fun R => arg7.view.read (Elt Ideal) X_arg7 (ix2 R n)) (fun R => arg8.view.read (Elt Ideal) X_arg8 (ix2 R n))) ⟨k, h⟩ else 0) := by
  induction j with
  | zero => rw [st_k0_t1_zero, Finset.range_zero, Finset.sum_empty, add_zero]
  | succ j ih =>
    have h := st_k0_t1_succ (F := Ideal) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 G10 G11 init ⟨j, hj⟩
    rw [show j + 1 = (⟨j, hj⟩ : Fin k0_t1_loop.trips).val + 1 from rfl, h]
    refine (trip_apply 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 ⟨j, hj⟩ _ _ _ t n).trans ?_
    rw [Finset.sum_range_succ, ← add_assoc, dif_pos (trips_lt ⟨j, hj⟩), ← ih (Nat.le_of_succ_le hj)]

/-- The loop yields its initial value plus the product of the activations with the dequantised weights. -/
theorem sweep_apply (𝒱 : Variants) (c : Dev nD) (bd : Option 𝒱.V) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x2x128 .bf16) (harg10 : arg10.IsWhole) (arg11 : Memref sig .tc .vmem S4x560x2x128 .bf16) (harg11 : arg11.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
    (G10 : BufTy.Contents (Elt Ideal) arg10.view.ty) (G11 : BufTy.Contents (Elt Ideal) arg11.view.ty) (init : FVec Ideal S192x512 .f32) (t : Fin 192) (n : Fin 512) :
    (st_k0_t1 (F := Ideal) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 X_arg8 G10 G11 init k0_t1_loop.trips).1 (ix2 t n)
      = init (ix2 t n) + Spec.out (fun R => arg1.view.read (Elt Ideal) X_arg1 (ix2 t R)) (fun R => arg2.view.read (Elt Ideal) X_arg2 (ix2 R n)) (Spec.stat (fun R => arg3.view.read (Elt Ideal) X_arg3 (ix2 R n)) (fun R => arg5.view.read (Elt Ideal) X_arg5 (ix2 R n)) (fun R => arg6.view.read (Elt Ideal) X_arg6 (ix2 R n))) (Spec.stat (fun R => arg4.view.read (Elt Ideal) X_arg4 (ix2 R n)) (fun R => arg7.view.read (Elt Ideal) X_arg7 (ix2 R n)) (fun R => arg8.view.read (Elt Ideal) X_arg8 (ix2 R n))) := by
  rw [sweep_upto _ _ _ _ _ _ _ _ _ _ _ _ _ _ _ _ _ _ _ _ _ _ _ _ _ _ _ _ _ _ _ _ _ _ _ _ _ t n _ le_rfl, Spec.out_eq_blk, trips_eq, Finset.sum_range]
  exact congrArg (init (ix2 t n) + ·) (Finset.sum_congr rfl fun k _ => dif_pos k.isLt)

end Cert.KernelIdeal.Hand

end
-- ==== Proof.Body.lean ====
module

public import proofs.«01_k».proof.Proof.Sweep
public import proofs.«01_k».proof.Proof.Gen.KernelIdeal.Frame
public import Idealize.ShloMosaic.Lib.IdealHost

@[expose] public section

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

/-- What the body stores in its block of the result, from the blocks of its eight inputs: at row `t` and column `n` the
    product of row `t` of the activations with column `n` of the dequantised weights. -/
def outV (x1 : Vec Ideal S192x8960 .bf16) (x2 : Vec Ideal S4480x512 .i8) (x3 x4 : Vec Ideal S280x512 .i8) (x5 x6 x7 x8 : Vec Ideal S35x512 .f32) :
    Vec Ideal S192x512 .f32 := fun j =>
  Spec.out (fun R => x1 (ix2 (n0 := 192) (j 0) R)) (fun R => x2 (ix2 (n1 := 512) R (j 1)))
    (Spec.stat (fun R => x3 (ix2 (n1 := 512) R (j 1))) (fun R => x5 (ix2 (n1 := 512) R (j 1))) (fun R => x6 (ix2 (n1 := 512) R (j 1))))
    (Spec.stat (fun R => x4 (ix2 (n1 := 512) R (j 1))) (fun R => x7 (ix2 (n1 := 512) R (j 1))) (fun R => x8 (ix2 (n1 := 512) R (j 1))))

/-- The product starts from zeros. -/
theorem pay1_apply (j : S192x512.Idx) : k0_pay1 (F := Ideal) j = 0 := Ideal.ofBits_zero_f32

theorem zero_off : (![0, 0] : Fin 2 → Nat) = fun _ => 0 := funext fun a => by fin_cases a <;> rfl

/-- The kernel body, from its inputs' blocks at `x1` to `x8` and anything in the result's block and the two scratch
    buffers, ends with the inputs' blocks unchanged and `outV` of them in the result's block. -/
theorem sound_kernel (c : Dev nD) (E : Set ℕ) (i : grid0.Coords) (arg1 : Memref sig .tc .vmem S192x8960 .bf16) (harg1 : arg1.IsWhole) (arg2 : Memref sig .tc .vmem S4480x512 .i8) (harg2 : arg2.IsWhole) (arg3 : Memref sig .tc .vmem S280x512 .i8) (harg3 : arg3.IsWhole) (arg4 : Memref sig .tc .vmem S280x512 .i8) (harg4 : arg4.IsWhole) (arg5 : Memref sig .tc .vmem S35x512 .f32) (harg5 : arg5.IsWhole) (arg6 : Memref sig .tc .vmem S35x512 .f32) (harg6 : arg6.IsWhole) (arg7 : Memref sig .tc .vmem S35x512 .f32) (harg7 : arg7.IsWhole) (arg8 : Memref sig .tc .vmem S35x512 .f32) (harg8 : arg8.IsWhole) (arg9 : Memref sig .tc .vmem S192x512 .f32) (harg9 : arg9.IsWhole) (arg10 : Memref sig .tc .vmem S4x560x2x128 .bf16) (harg10 : arg10.IsWhole) (arg11 : Memref sig .tc .vmem S4x560x2x128 .bf16) (harg11 : arg11.IsWhole)
    (x1 : Vec Ideal S192x8960 .bf16) (x2 : Vec Ideal S4480x512 .i8) (x3 : Vec Ideal S280x512 .i8) (x4 : Vec Ideal S280x512 .i8) (x5 : Vec Ideal S35x512 .f32) (x6 : Vec Ideal S35x512 .f32) (x7 : Vec Ideal S35x512 .f32) (x8 : Vec Ideal S35x512 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outV x1 x2 x3 x4 x5 x6 x7 x8) ∗ (∃ d, owns (c : Thread nD τ) arg10 fullShare d) ∗ (∃ d, owns (c : Thread nD τ) arg11 fullShare d) ) -∗ K ⟨⟩))
      ⊢ wp frame (wpE (defs₀ (F := Ideal)) Variants.none c none) E (cc0_dense (F := Ideal) i arg1 harg1 arg2 harg2 arg3 harg3 arg4 harg4 arg5 harg5 arg6 harg6 arg7 harg7 arg8 harg8 arg9 harg9 arg10 harg10 arg11 harg11) K := by
  simp only [cc0_dense_eq_skeleton]; unfold cc0_dense_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (View.cover_of_tiled _ S192x512.size (by rfl))).trans ?_
    refine (View.canon_unit_zero zero_off _ _).trans ?_
    funext j
    obtain ⟨t, n, rfl⟩ : ∃ (t : Fin 192) (n : Fin 512), j = ix2 t n := ⟨_, _, eq_ix2 j⟩
    refine (sweep_apply _ _ _ _ _ _ _ _ _ _ _ _ _ _ _ _ _ _ _ _ _ _ _ _ _ _ _ _ _ _ _ _ _ _ _ _ _ t n).trans ?_
    rw [pay1_apply, zero_add]
    rfl
  isplitl [H10]
  · iexists _, _; isplitr; swap; · iexact H10
    ipureintro; rfl
  iexists _, _; isplitr; swap; · iexact H11
  ipureintro; rfl

end Cert.KernelIdeal.Hand

end
-- ==== Proof.Columns.lean ====
module

public import proofs.«01_k».proof.Proof.Body

@[expose] public section

set_option maxRecDepth 16384
set_option maxHeartbeats 200000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

/-- A coordinate of a block that lies inside the array is among those the block's transfer moves. -/
theorem lt_extent {ix k d j : ℕ} (hj : j < k) (h : ix * k + j < d) : j < (Pipeline.Clip.of ix k d).extent k := by
  unfold Pipeline.Clip.of
  split
  · exact hj
  · show j < d - ix * k
    omega

theorem lt_rows {ix k j : ℕ} (h : ix = 0) (hj : j < k) : ix * k + j < k := by subst h; omega

theorem off_rows {ix k j : ℕ} (h : ix = 0) : ix * k + 1 * j = j := by subst h; omega

theorem off_cols {ix k j t : ℕ} (h : ix = t) : ix * k + 1 * j = t * k + j := by subst h; omega

/-- The blocks of every array that is cut by columns are the consecutive ones, point `t`'s at block column `t`. -/
theorem transform_eq : ∀ t : Fin cfg0.N, cc0_transform_1 (grid0.coords t) = ![0, t.val] :=
  (by decide +kernel : ∀ t : Fin 34, cc0_transform_1 (grid0.coords t) = ![0, t.val])

/-- Column `n` of the block of window 1 as fetched at point `t` is column `512 t + n` of its array. -/
theorem fill_1 (t : Fin cfg0.N) (A : S4480x17152.Idx → Elt Ideal .i8) (d : S4480x512.Idx → Elt Ideal .i8) (R : Fin 4480) (n : Fin 512) (hn : t.val * 512 + n.val < 17152) :
    win0_1.fill (grid0.coords t) d ((win0_1.blk t).view.read (Elt Ideal) A) (ix2 R n) = A (ix2 R ⟨t.val * 512 + n.val, hn⟩) := by
  have e : cc0_transform_1 (grid0.coords t) = ![0, t.val] := transform_eq t
  have hm : win0_1.moved (grid0.coords t) (ix2 R n) = true := (win0_1.moved_iff _ _).mpr fun a => by
    show _ < (Pipeline.Clip.of (cc0_transform_1 (grid0.coords t) a) (S4480x512.size a) (S4480x17152.size a)).extent (S4480x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_1 (grid0.coords t) 0 * S4480x512.size 0 + 1 * R.val) rfl (off_rows (congrFun e 0))
  | ⟨1, _⟩ =>
    exact Eq.trans (b := cc0_transform_1 (grid0.coords t) 1 * S4480x512.size 1 + 1 * n.val) rfl (off_cols (congrFun e 1))

/-- Column `n` of the block of window 2 as fetched at point `t` is column `512 t + n` of its array. -/
theorem fill_2 (t : Fin cfg0.N) (A : S280x17152.Idx → Elt Ideal .i8) (d : S280x512.Idx → Elt Ideal .i8) (R : Fin 280) (n : Fin 512) (hn : t.val * 512 + n.val < 17152) :
    win0_2.fill (grid0.coords t) d ((win0_2.blk t).view.read (Elt Ideal) A) (ix2 R n) = A (ix2 R ⟨t.val * 512 + n.val, hn⟩) := by
  have e : cc0_transform_2 (grid0.coords t) = ![0, t.val] := transform_eq t
  have hm : win0_2.moved (grid0.coords t) (ix2 R n) = true := (win0_2.moved_iff _ _).mpr fun a => by
    show _ < (Pipeline.Clip.of (cc0_transform_2 (grid0.coords t) a) (S280x512.size a) (S280x17152.size a)).extent (S280x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_2 (grid0.coords t) 0 * S280x512.size 0 + 1 * R.val) rfl (off_rows (congrFun e 0))
  | ⟨1, _⟩ =>
    exact Eq.trans (b := cc0_transform_2 (grid0.coords t) 1 * S280x512.size 1 + 1 * n.val) rfl (off_cols (congrFun e 1))

/-- Column `n` of the block of window 3 as fetched at point `t` is column `512 t + n` of its array. -/
theorem fill_3 (t : Fin cfg0.N) (A : S280x17152.Idx → Elt Ideal .i8) (d : S280x512.Idx → Elt Ideal .i8) (R : Fin 280) (n : Fin 512) (hn : t.val * 512 + n.val < 17152) :
    win0_3.fill (grid0.coords t) d ((win0_3.blk t).view.read (Elt Ideal) A) (ix2 R n) = A (ix2 R ⟨t.val * 512 + n.val, hn⟩) := by
  have e : cc0_transform_3 (grid0.coords t) = ![0, t.val] := transform_eq t
  have hm : win0_3.moved (grid0.coords t) (ix2 R n) = true := (win0_3.moved_iff _ _).mpr fun a => by
    show _ < (Pipeline.Clip.of (cc0_transform_3 (grid0.coords t) a) (S280x512.size a) (S280x17152.size a)).extent (S280x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_3 (grid0.coords t) 0 * S280x512.size 0 + 1 * R.val) rfl (off_rows (congrFun e 0))
  | ⟨1, _⟩ =>
    exact Eq.trans (b := cc0_transform_3 (grid0.coords t) 1 * S280x512.size 1 + 1 * n.val) rfl (off_cols (congrFun e 1))

/-- Column `n` of the block of window 4 as fetched at point `t` is column `512 t + n` of its array. -/
theorem fill_4 (t : Fin cfg0.N) (A : S35x17152.Idx → Elt Ideal .f32) (d : S35x512.Idx → Elt Ideal .f32) (R : Fin 35) (n : Fin 512) (hn : t.val * 512 + n.val < 17152) :
    win0_4.fill (grid0.coords t) d ((win0_4.blk t).view.read (Elt Ideal) A) (ix2 R n) = A (ix2 R ⟨t.val * 512 + n.val, hn⟩) := by
  have e : cc0_transform_4 (grid0.coords t) = ![0, t.val] := transform_eq t
  have hm : win0_4.moved (grid0.coords t) (ix2 R n) = true := (win0_4.moved_iff _ _).mpr fun a => by
    show _ < (Pipeline.Clip.of (cc0_transform_4 (grid0.coords t) a) (S35x512.size a) (S35x17152.size a)).extent (S35x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_4 (grid0.coords t) 0 * S35x512.size 0 + 1 * R.val) rfl (off_rows (congrFun e 0))
  | ⟨1, _⟩ =>
    exact Eq.trans (b := cc0_transform_4 (grid0.coords t) 1 * S35x512.size 1 + 1 * n.val) rfl (off_cols (congrFun e 1))

/-- Column `n` of the block of window 5 as fetched at point `t` is column `512 t + n` of its array. -/
theorem fill_5 (t : Fin cfg0.N) (A : S35x17152.Idx → Elt Ideal .f32) (d : S35x512.Idx → Elt Ideal .f32) (R : Fin 35) (n : Fin 512) (hn : t.val * 512 + n.val < 17152) :
    win0_5.fill (grid0.coords t) d ((win0_5.blk t).view.read (Elt Ideal) A) (ix2 R n) = A (ix2 R ⟨t.val * 512 + n.val, hn⟩) := by
  have e : cc0_transform_5 (grid0.coords t) = ![0, t.val] := transform_eq t
  have hm : win0_5.moved (grid0.coords t) (ix2 R n) = true := (win0_5.moved_iff _ _).mpr fun a => by
    show _ < (Pipeline.Clip.of (cc0_transform_5 (grid0.coords t) a) (S35x512.size a) (S35x17152.size a)).extent (S35x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_5 (grid0.coords t) 0 * S35x512.size 0 + 1 * R.val) rfl (off_rows (congrFun e 0))
  | ⟨1, _⟩ =>
    exact Eq.trans (b := cc0_transform_5 (grid0.coords t) 1 * S35x512.size 1 + 1 * n.val) rfl (off_cols (congrFun e 1))

/-- Column `n` of the block of window 6 as fetched at point `t` is column `512 t + n` of its array. -/
theorem fill_6 (t : Fin cfg0.N) (A : S35x17152.Idx → Elt Ideal .f32) (d : S35x512.Idx → Elt Ideal .f32) (R : Fin 35) (n : Fin 512) (hn : t.val * 512 + n.val < 17152) :
    win0_6.fill (grid0.coords t) d ((win0_6.blk t).view.read (Elt Ideal) A) (ix2 R n) = A (ix2 R ⟨t.val * 512 + n.val, hn⟩) := by
  have e : cc0_transform_6 (grid0.coords t) = ![0, t.val] := transform_eq t
  have hm : win0_6.moved (grid0.coords t) (ix2 R n) = true := (win0_6.moved_iff _ _).mpr fun a => by
    show _ < (Pipeline.Clip.of (cc0_transform_6 (grid0.coords t) a) (S35x512.size a) (S35x17152.size a)).extent (S35x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_6 (grid0.coords t) 0 * S35x512.size 0 + 1 * R.val) rfl (off_rows (congrFun e 0))
  | ⟨1, _⟩ =>
    exact Eq.trans (b := cc0_transform_6 (grid0.coords t) 1 * S35x512.size 1 + 1 * n.val) rfl (off_cols (congrFun e 1))

/-- Column `n` of the block of window 7 as fetched at point `t` is column `512 t + n` of its array. -/
theorem fill_7 (t : Fin cfg0.N) (A : S35x17152.Idx → Elt Ideal .f32) (d : S35x512.Idx → Elt Ideal .f32) (R : Fin 35) (n : Fin 512) (hn : t.val * 512 + n.val < 17152) :
    win0_7.fill (grid0.coords t) d ((win0_7.blk t).view.read (Elt Ideal) A) (ix2 R n) = A (ix2 R ⟨t.val * 512 + n.val, hn⟩) := by
  have e : cc0_transform_7 (grid0.coords t) = ![0, t.val] := transform_eq t
  have hm : win0_7.moved (grid0.coords t) (ix2 R n) = true := (win0_7.moved_iff _ _).mpr fun a => by
    show _ < (Pipeline.Clip.of (cc0_transform_7 (grid0.coords t) a) (S35x512.size a) (S35x17152.size a)).extent (S35x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_7 (grid0.coords t) 0 * S35x512.size 0 + 1 * R.val) rfl (off_rows (congrFun e 0))
  | ⟨1, _⟩ =>
    exact Eq.trans (b := cc0_transform_7 (grid0.coords t) 1 * S35x512.size 1 + 1 * n.val) rfl (off_cols (congrFun e 1))

/-- The whole result, from the eight arrays: at row `t` and column `n` the product of row `t` of the activations with
    column `n` of the dequantised weights. -/
def outG (A1 : S192x8960.Idx → Elt Ideal .bf16) (A2 : S4480x17152.Idx → Elt Ideal .i8) (A3 A4 : S280x17152.Idx → Elt Ideal .i8) (A5 A6 A7 A8 : S35x17152.Idx → Elt Ideal .f32) :
    S192x17152.Idx → Elt Ideal .f32 := fun q =>
  Spec.out (fun R => A1 (ix2 (n0 := 192) (q 0) R)) (fun R => A2 (ix2 (n1 := 17152) R (q 1)))
    (Spec.stat (fun R => A3 (ix2 (n1 := 17152) R (q 1))) (fun R => A5 (ix2 (n1 := 17152) R (q 1))) (fun R => A6 (ix2 (n1 := 17152) R (q 1))))
    (Spec.stat (fun R => A4 (ix2 (n1 := 17152) R (q 1))) (fun R => A7 (ix2 (n1 := 17152) R (q 1))) (fun R => A8 (ix2 (n1 := 17152) R (q 1))))

/-- The columns inside the array of what the body stores at point `t` are block `t` of the whole result: a column of the
    body's result depends on the same column of its inputs alone, and that column was fetched. -/
theorem cut_outV (t : Fin cfg0.N) (A1 : S192x8960.Idx → Elt Ideal .bf16) (A2 : S4480x17152.Idx → Elt Ideal .i8) (A3 A4 : S280x17152.Idx → Elt Ideal .i8) (A5 A6 A7 A8 : S35x17152.Idx → Elt Ideal .f32)
    (d2 : S4480x512.Idx → Elt Ideal .i8) (d3 d4 : S280x512.Idx → Elt Ideal .i8) (d5 d6 d7 d8 : S35x512.Idx → Elt Ideal .f32) :
    win0_8.cut (grid0.coords t) (outV A1
      (win0_1.fill (grid0.coords t) d2 ((win0_1.blk t).view.read (Elt Ideal) A2)) (win0_2.fill (grid0.coords t) d3 ((win0_2.blk t).view.read (Elt Ideal) A3)) (win0_3.fill (grid0.coords t) d4 ((win0_3.blk t).view.read (Elt Ideal) A4)) (win0_4.fill (grid0.coords t) d5 ((win0_4.blk t).view.read (Elt Ideal) A5)) (win0_5.fill (grid0.coords t) d6 ((win0_5.blk t).view.read (Elt Ideal) A6)) (win0_6.fill (grid0.coords t) d7 ((win0_6.blk t).view.read (Elt Ideal) A7)) (win0_7.fill (grid0.coords t) d8 ((win0_7.blk t).view.read (Elt Ideal) A8)))
    = (win0_8.blk t).view.read (Elt Ideal) (outG A1 A2 A3 A4 A5 A6 A7 A8) := by
  have e : cc0_transform_8 (grid0.coords t) = ![0, t.val] := transform_eq t
  funext j
  have hj : (j 1).val < 512 := Nat.lt_of_lt_of_le (j 1).isLt (win0_8.xsize_le (grid0.coords t) 1)
  have hn : t.val * 512 + (j 1).val < 17152 := by
    have h1 := Pipeline.Clip.inb (Pipeline.Clip.ok_of (hstart0_8 (grid0.coords t) 1))
    have h2 : (j 1).val < (Pipeline.Clip.of (cc0_transform_8 (grid0.coords t) 1) (S192x512.size 1) (S192x17152.size 1)).extent (S192x512.size 1) := (j 1).isLt
    have h3 : cc0_transform_8 (grid0.coords t) 1 * S192x512.size 1 = t.val * 512 := by rw [e]; rfl
    have h4 : S192x17152.size 1 = 17152 := rfl
    omega
  rw [View.read_apply]
  have hq : ((win0_8.blk t).view.emb j : S192x17152.Idx) = ix2 (n0 := 192) (n1 := 17152) (win0_8.xinj (grid0.coords t) j 0) ⟨t.val * 512 + (j 1).val, hn⟩ := by
    funext a
    refine Fin.ext ?_
    match a with
    | ⟨0, _⟩ =>
      show cc0_transform_8 (grid0.coords t) 0 * 192 + 1 * (j 0).val = (j 0).val
      rw [e]; show 0 * 192 + 1 * (j 0).val = (j 0).val; omega
    | ⟨1, _⟩ =>
      show cc0_transform_8 (grid0.coords t) 1 * 512 + 1 * (j 1).val = t.val * 512 + (j 1).val
      rw [e]; show t.val * 512 + 1 * (j 1).val = t.val * 512 + (j 1).val; omega
  refine Eq.trans ?_ (congrArg (outG A1 A2 A3 A4 A5 A6 A7 A8) hq).symm
  have f1 : ∀ R, win0_1.fill (grid0.coords t) d2 ((win0_1.blk t).view.read (Elt Ideal) A2) (ix2 R ⟨(j 1).val, hj⟩) = A2 (ix2 R ⟨t.val * 512 + (j 1).val, hn⟩) := fun R => fill_1 t A2 d2 R ⟨_, hj⟩ hn
  have f2 : ∀ R, win0_2.fill (grid0.coords t) d3 ((win0_2.blk t).view.read (Elt Ideal) A3) (ix2 R ⟨(j 1).val, hj⟩) = A3 (ix2 R ⟨t.val * 512 + (j 1).val, hn⟩) := fun R => fill_2 t A3 d3 R ⟨_, hj⟩ hn
  have f3 : ∀ R, win0_3.fill (grid0.coords t) d4 ((win0_3.blk t).view.read (Elt Ideal) A4) (ix2 R ⟨(j 1).val, hj⟩) = A4 (ix2 R ⟨t.val * 512 + (j 1).val, hn⟩) := fun R => fill_3 t A4 d4 R ⟨_, hj⟩ hn
  have f4 : ∀ R, win0_4.fill (grid0.coords t) d5 ((win0_4.blk t).view.read (Elt Ideal) A5) (ix2 R ⟨(j 1).val, hj⟩) = A5 (ix2 R ⟨t.val * 512 + (j 1).val, hn⟩) := fun R => fill_4 t A5 d5 R ⟨_, hj⟩ hn
  have f5 : ∀ R, win0_5.fill (grid0.coords t) d6 ((win0_5.blk t).view.read (Elt Ideal) A6) (ix2 R ⟨(j 1).val, hj⟩) = A6 (ix2 R ⟨t.val * 512 + (j 1).val, hn⟩) := fun R => fill_5 t A6 d6 R ⟨_, hj⟩ hn
  have f6 : ∀ R, win0_6.fill (grid0.coords t) d7 ((win0_6.blk t).view.read (Elt Ideal) A7) (ix2 R ⟨(j 1).val, hj⟩) = A7 (ix2 R ⟨t.val * 512 + (j 1).val, hn⟩) := fun R => fill_6 t A7 d7 R ⟨_, hj⟩ hn
  have f7 : ∀ R, win0_7.fill (grid0.coords t) d8 ((win0_7.blk t).view.read (Elt Ideal) A8) (ix2 R ⟨(j 1).val, hj⟩) = A8 (ix2 R ⟨t.val * 512 + (j 1).val, hn⟩) := fun R => fill_7 t A8 d8 R ⟨_, hj⟩ hn
  show Spec.out (fun R => A1 (ix2 (n0 := 192) (win0_8.xinj (grid0.coords t) j 0) R)) (fun R => (win0_1.fill (grid0.coords t) d2 ((win0_1.blk t).view.read (Elt Ideal) A2)) (ix2 (n1 := 512) R ⟨(j 1).val, hj⟩))
    (Spec.stat (fun R => (win0_2.fill (grid0.coords t) d3 ((win0_2.blk t).view.read (Elt Ideal) A3)) (ix2 (n1 := 512) R ⟨(j 1).val, hj⟩)) (fun R => (win0_4.fill (grid0.coords t) d5 ((win0_4.blk t).view.read (Elt Ideal) A5)) (ix2 (n1 := 512) R ⟨(j 1).val, hj⟩)) (fun R => (win0_5.fill (grid0.coords t) d6 ((win0_5.blk t).view.read (Elt Ideal) A6)) (ix2 (n1 := 512) R ⟨(j 1).val, hj⟩)))
    (Spec.stat (fun R => (win0_3.fill (grid0.coords t) d4 ((win0_3.blk t).view.read (Elt Ideal) A4)) (ix2 (n1 := 512) R ⟨(j 1).val, hj⟩)) (fun R => (win0_6.fill (grid0.coords t) d7 ((win0_6.blk t).view.read (Elt Ideal) A7)) (ix2 (n1 := 512) R ⟨(j 1).val, hj⟩)) (fun R => (win0_7.fill (grid0.coords t) d8 ((win0_7.blk t).view.read (Elt Ideal) A8)) (ix2 (n1 := 512) R ⟨(j 1).val, hj⟩))) = _
  rw [funext f1, funext f2, funext f3, funext f4, funext f5, funext f6, funext f7]
  rfl

end Cert.KernelIdeal.Hand

end
-- ==== Proof.Result.lean ====
module

public import proofs.«01_k».proof.Proof.Columns
public import Idealize.ShloMosaic.Lib.Pipeline.Value

@[expose] public section

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The whole result, from the arrays as the kernel finds them. -/
def outM (c : Dev nD) : S192x17152.Idx → Elt Ideal .f32 :=
  outG (V m c main_v0) (V m c main_arg1) (V m c main_arg2) (V m c main_arg3) (V m c main_arg4) (V m c main_arg5) (V m c main_arg6) (V m c main_arg7)

/-- What the pipeline's run is checked against: the arrays as the kernel finds them; after the body at point `t` each
    input's buffer still at its block, and the result's at block `t` of the whole result (past the array's end nothing is
    said of a buffer, and the contents named there are a filler); the two scratch buffers at anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0#8 : BitVec 8)) (iblk m c 2 t)
    | ⟨3, _⟩ => win0_3.fill (grid0.coords t) (fun _ => (0#8 : BitVec 8)) (iblk m c 3 t)
    | ⟨4, _⟩ => win0_4.fill (grid0.coords t) (fun _ => (0 : EReal)) (iblk m c 4 t)
    | ⟨5, _⟩ => win0_5.fill (grid0.coords t) (fun _ => (0 : EReal)) (iblk m c 5 t)
    | ⟨6, _⟩ => win0_6.fill (grid0.coords t) (fun _ => (0 : EReal)) (iblk m c 6 t)
    | ⟨7, _⟩ => win0_7.fill (grid0.coords t) (fun _ => (0 : EReal)) (iblk m c 7 t)
    | ⟨8, _⟩ => win0_8.fill (grid0.coords t) (fun _ => (0 : EReal)) ((win0_8.blk t).view.read (Elt Ideal) (outM m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

/-- The activations' buffer holds the whole array at every point. -/
theorem before0_0 (c : Dev nD) (t : Fin cfg0.N) (d) : (dats m 0 c).before 0 t d = iblk m c 0 t :=
  before0_0_of m (dats m 0 c) (A_eq m c 0) (after0_0 m c) t d

/-! Every other input's buffer holds, when the body starts, the block just fetched, on the columns inside the array. -/

theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (d) : (dats m 0 c).before 5 t d = win0_5.fill (grid0.coords t) d (iblk m c 5 t) := by
  unfold Dat.before; rw [if_pos (fetch0_5 t)]; rfl
theorem before0_6 (c : Dev nD) (t : Fin cfg0.N) (d) : (dats m 0 c).before 6 t d = win0_6.fill (grid0.coords t) d (iblk m c 6 t) := by
  unfold Dat.before; rw [if_pos (fetch0_6 t)]; rfl
theorem before0_7 (c : Dev nD) (t : Fin cfg0.N) (d) : (dats m 0 c).before 7 t d = win0_7.fill (grid0.coords t) d (iblk m c 7 t) := by
  unfold Dat.before; rw [if_pos (fetch0_7 t)]; rfl

/-! The body leaves each of those buffers at its block, on the columns inside the array. -/

theorem cut_after0_1 (c : Dev nD) (t : Fin cfg0.N) : win0_1.cut (grid0.coords t) ((dats m 0 c).after 1 t) = iblk m c 1 t := by
  dsimp only [dats]; exact win0_1.cut_fill _ _ _
theorem cut_after0_2 (c : Dev nD) (t : Fin cfg0.N) : win0_2.cut (grid0.coords t) ((dats m 0 c).after 2 t) = iblk m c 2 t := by
  dsimp only [dats]; exact win0_2.cut_fill _ _ _
theorem cut_after0_3 (c : Dev nD) (t : Fin cfg0.N) : win0_3.cut (grid0.coords t) ((dats m 0 c).after 3 t) = iblk m c 3 t := by
  dsimp only [dats]; exact win0_3.cut_fill _ _ _
theorem cut_after0_4 (c : Dev nD) (t : Fin cfg0.N) : win0_4.cut (grid0.coords t) ((dats m 0 c).after 4 t) = iblk m c 4 t := by
  dsimp only [dats]; exact win0_4.cut_fill _ _ _
theorem cut_after0_5 (c : Dev nD) (t : Fin cfg0.N) : win0_5.cut (grid0.coords t) ((dats m 0 c).after 5 t) = iblk m c 5 t := by
  dsimp only [dats]; exact win0_5.cut_fill _ _ _
theorem cut_after0_6 (c : Dev nD) (t : Fin cfg0.N) : win0_6.cut (grid0.coords t) ((dats m 0 c).after 6 t) = iblk m c 6 t := by
  dsimp only [dats]; exact win0_6.cut_fill _ _ _
theorem cut_after0_7 (c : Dev nD) (t : Fin cfg0.N) : win0_7.cut (grid0.coords t) ((dats m 0 c).after 7 t) = iblk m c 7 t := by
  dsimp only [dats]; exact win0_7.cut_fill _ _ _

/-- The body leaves the result's buffer at block `t` of the whole result, on the columns inside the array. -/
theorem cut_after0_8 (c : Dev nD) (t : Fin cfg0.N) :
    win0_8.cut (grid0.coords t) ((dats m 0 c).after 8 t) = (win0_8.blk t).view.read (Elt Ideal) (outM m c) := by
  dsimp only [dats]; exact win0_8.cut_fill _ _ _

/-- The activations are one block, the whole array. -/
theorem iblk_0 (c : Dev nD) (t : Fin cfg0.N) : (iblk m c 0 t : S192x8960.Idx → Elt Ideal .bf16) = V m c main_v0 := by
  funext j
  refine congrArg (V m c main_v0 : S192x8960.Idx → Elt Ideal .bf16) (funext fun a => Fin.ext ?_)
  match a with
  | ⟨0, _⟩ => exact Eq.trans (b := 0 * S192x8960.size 0 + 1 * (j 0).val) rfl (off_rows rfl)
  | ⟨1, _⟩ => exact Eq.trans (b := 0 * S192x8960.size 1 + 1 * (j 1).val) rfl (off_rows rfl)

/-- Between points: the two scratch buffers at anything and the generator's register at some state. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]; simp only [owns_whole]; try rfl

/-- The body table's row at point `t`'s slots is the body at point `t`. -/
theorem defs₀_row (t : Fin cfg0.N) :
    defs₀ (F := Ideal) .tc cfg0.body (cfg0.bodyArgs t (cfg0.slots t)) = bodyAt0 t := by
  unfold defs₀; rw [Defs.onTc_tc]

/-- The body at point `t`: it finds each input's buffer at its block on the columns inside the array, and leaves it so; it
    leaves the result's buffer, on the columns inside the array, at block `t` of the whole result. -/
theorem body_obligation (c : Dev nD) : BodyObligationLoose (dats m 0 c) (defs₀ (F := Ideal)) Variants.none () Set.univ := fun t => by
  rw [bigSep_W0, bigSep_W0, defs₀_row]
  unfold bodyAt0
  simp only
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA_eq]
  iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5, before0_6 m c t d6, before0_7 m c t d7]
  iapply (sound_kernel c Set.univ (grid0.coords t) _ _ _ _ _ _ _ _ _ _ _ _ _ _ _ _ _ _ _ _ _ _  (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hr]
  · isplitl [HS0 HS1]
    · isplitl [HS0]; · iexact HS0
      iexact HS1
    iexact Hr
  isplitl [Ho]; · iexact Ho
  isplitl [H0]; · rw [after0_0]; iexact H0
  isplitl [H1]
  · iexists d1
    change _ ⊢ owns (c : Thread nD τ) (st0_1 t) fullShare (win0_1.fill (grid0.coords t) d1 (win0_1.cut (grid0.coords t) ((dats m 0 c).after 1 t)))
    rw [cut_after0_1]; try iexact H1
  isplitl [H2]
  · iexists d2
    change _ ⊢ owns (c : Thread nD τ) (st0_2 t) fullShare (win0_2.fill (grid0.coords t) d2 (win0_2.cut (grid0.coords t) ((dats m 0 c).after 2 t)))
    rw [cut_after0_2]; try iexact H2
  isplitl [H3]
  · iexists d3
    change _ ⊢ owns (c : Thread nD τ) (st0_3 t) fullShare (win0_3.fill (grid0.coords t) d3 (win0_3.cut (grid0.coords t) ((dats m 0 c).after 3 t)))
    rw [cut_after0_3]; try iexact H3
  isplitl [H4]
  · iexists d4
    change _ ⊢ owns (c : Thread nD τ) (st0_4 t) fullShare (win0_4.fill (grid0.coords t) d4 (win0_4.cut (grid0.coords t) ((dats m 0 c).after 4 t)))
    rw [cut_after0_4]; try iexact H4
  isplitl [H5]
  · iexists d5
    change _ ⊢ owns (c : Thread nD τ) (st0_5 t) fullShare (win0_5.fill (grid0.coords t) d5 (win0_5.cut (grid0.coords t) ((dats m 0 c).after 5 t)))
    rw [cut_after0_5]; try iexact H5
  isplitl [H6]
  · iexists d6
    change _ ⊢ owns (c : Thread nD τ) (st0_6 t) fullShare (win0_6.fill (grid0.coords t) d6 (win0_6.cut (grid0.coords t) ((dats m 0 c).after 6 t)))
    rw [cut_after0_6]; try iexact H6
  isplitl [H7]
  · iexists d7
    change _ ⊢ owns (c : Thread nD τ) (st0_7 t) fullShare (win0_7.fill (grid0.coords t) d7 (win0_7.cut (grid0.coords t) ((dats m 0 c).after 7 t)))
    rw [cut_after0_7]; try iexact H7
  iexists (outV (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)))
  change _ ⊢ owns (c : Thread nD τ) (st0_8 t) fullShare (win0_8.fill (grid0.coords t) (outV (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t))) (win0_8.cut (grid0.coords t) ((dats m 0 c).after 8 t)))
  have hx : win0_8.cut (grid0.coords t) (outV (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t))) = win0_8.cut (grid0.coords t) ((dats m 0 c).after 8 t) := by
    rw [cut_after0_8, iblk_0]
    exact cut_outV t _ _ _ _ _ _ _ _ _ _ _ _ _ _ _
  rw [win0_8.fill_congr_cut (grid0.coords t) hx]; try iexact H8

set_option backward.isDefEq.respectTransparency.types false in
/-- Every run of the whole program ends, with every counter at zero and every array at what the blocks written back leave. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
    ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every column of the result is in the block of the point its block column names. -/
theorem mem_blk (i : S192x17152.Idx) : ∃ t : Fin cfg0.N, (cfg0.win 8).flush t = true ∧ i ∈ ((cfg0.win 8).blk t).view.set := by
  have h1 : (i 1).val < 17152 := (i 1).isLt
  have ht : (i 1).val / 512 < 34 := by omega
  refine ⟨⟨(i 1).val / 512, ht⟩, flush0_8 _, ?_⟩
  have e : cc0_transform_8 (grid0.coords (⟨(i 1).val / 512, ht⟩ : Fin cfg0.N)) = ![0, (i 1).val / 512] := transform_eq ⟨(i 1).val / 512, ht⟩
  show i ∈ ((View.whole main_v1).slice (win0_8.rect ⟨(i 1).val / 512, ht⟩)).set
  rw [View.set_slice_whole, Rect.mem_set_unit]
  intro a
  show cc0_transform_8 (grid0.coords (⟨(i 1).val / 512, ht⟩ : Fin cfg0.N)) a * S192x512.size a ≤ (i a).val
    ∧ (i a).val < cc0_transform_8 (grid0.coords (⟨(i 1).val / 512, ht⟩ : Fin cfg0.N)) a * S192x512.size a + (Pipeline.Clip.of (cc0_transform_8 (grid0.coords (⟨(i 1).val / 512, ht⟩ : Fin cfg0.N)) a) (S192x512.size a) (S192x17152.size a)).extent (S192x512.size a)
  rw [e]
  match a with
  | ⟨0, _⟩ =>
    have h0 : (i 0).val < 192 := (i 0).isLt
    exact ⟨by show 0 * 192 ≤ (i 0).val; omega, by
      show (i 0).val < 0 * 192 + (Pipeline.Clip.of 0 192 192).extent 192
      rw [Nat.zero_mul, Nat.zero_add]; exact lt_extent h0 (by omega)⟩
  | ⟨1, _⟩ =>
    refine ⟨by show (i 1).val / 512 * 512 ≤ (i 1).val; omega, ?_⟩
    show (i 1).val < (i 1).val / 512 * 512 + (Pipeline.Clip.of ((i 1).val / 512) 512 17152).extent 512
    have h2 : (i 1).val % 512 < (Pipeline.Clip.of ((i 1).val / 512) 512 17152).extent 512 := lt_extent (by omega) (by omega)
    omega

/-- The result array ends at the whole result. -/
theorem arrAt_eq (c : Dev nD) : (dats m 0 c).arrAt 8 cfg0.N = outM m c :=
  Dat.arrAt_eq_of_cover (dats m 0 c) 8 (outM m c) (fun t _ => cut_after0_8 m c t) mem_blk

/-- THE VALUE: every run ends with the result array at the whole result and the argument arrays unchanged. -/
theorem value : θ_run defs (onTc (τ := τ) (main (F := Ideal))) ⟨m, fun _ => 0, ρ⟩ (fun r => ∀ c : Dev nD,
    r.2.mem ((c.tc : Thread nD τ).loc main_v1) = outM m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨((h.2.1 c).1 8).trans (arrAt_eq m c), h.1.1 c⟩) (θ_run_and (frame m ρ) (run_main m ρ))

end Cert.KernelIdeal.Hand

end
-- ==== Proof.RefValue.lean ====
module
public import proofs.«01_k».proof.Proof.Spec
public import proofs.«01_k».proof.Proof.Gen.ReferenceIdeal.Read
@[expose] public section
/-! The reference's value read pointwise: what each of its stages holds at an entry, ending in `result_apply`, which says
    the reference's result at row `t` and column `n` is `Spec.out` of row `t` of the activations and column `n` of the
    weights and of the two statistics' arrays. -/
set_option maxRecDepth 16384
set_option maxHeartbeats 2000000
noncomputable section
namespace Cert.ReferenceIdeal.Hand
open Idealize.ShloMosaic Idealize.ShloMosaic.TcCoe Idealize.SL Idealize.SL.Sem
open Cert.ReferenceIdeal Cert.ReferenceIdeal.Read

/-- Column `n` of a matrix. -/
abbrev col {N : ℕ} {α : Type} (x : (⟨2, ![N, 17152]⟩ : Shape).Idx → α) (n : Fin 17152) : Fin N → α :=
  fun r => x (ix2 (n1 := 17152) r n)

/-- Two positions of a matrix are one if their two entries are. -/
theorem pos2 {N M : ℕ} (f g : (⟨2, ![N, M]⟩ : Shape).Idx) (h0 : (f 0).val = (g 0).val) (h1 : (f 1).val = (g 1).val) : f = g :=
  funext fun a => Fin.ext (match a with | ⟨0, _⟩ => h0 | ⟨1, _⟩ => h1)

/-- Two positions of a three-dimensional array are one if their three entries are. -/
theorem pos3 {N M K : ℕ} (f g : (⟨3, ![N, M, K]⟩ : Shape).Idx) (h0 : (f 0).val = (g 0).val) (h1 : (f 1).val = (g 1).val)
    (h2 : (f 2).val = (g 2).val) : f = g :=
  funext fun a => Fin.ext (match a with | ⟨0, _⟩ => h0 | ⟨1, _⟩ => h1 | ⟨2, _⟩ => h2)

/-- Row `g` of 560 is row `g % 16` of block `g / 16`. -/
theorem split16 {g n : ℕ} (hn : n < 17152) (hg : g < 560) : (g * 17152 + n) / 274432 = g / 16 ∧ (g * 17152 + n) / 17152 % 16 = g % 16
    ∧ (g * 17152 + n) % 17152 = n := by omega

/-- Row `r` of block `b` of sixteen rows is half `(16 b + r) % 2` of byte row `(16 b + r) / 2`. -/
theorem split2 {b r n : ℕ} (hn : n < 17152) : ((b * 16 + r) * 17152 + n) / 34304 = (b * 16 + r) / 2
    ∧ ((b * 16 + r) * 17152 + n) / 17152 % 2 = (b * 16 + r) % 2 ∧ ((b * 16 + r) * 17152 + n) % 17152 = n := by omega

/-- Byte row `k` of 4480 is row `k % 8` of group `k / 8`. -/
theorem split8 {k n : ℕ} (hn : n < 17152) : (k * 17152 + n) / 137216 = k / 8 ∧ (k * 17152 + n) / 17152 % 8 = k % 8
    ∧ (k * 17152 + n) % 17152 = n := by omega

/-- Row `r` of group `g` of eight byte rows is byte row `8 g + r`. -/
theorem join8 {g r n : ℕ} (hn : n < 17152) : ((g * 8 + r) * 17152 + n) / 17152 = g * 8 + r
    ∧ ((g * 8 + r) * 17152 + n) % 17152 = n := by omega

/-! ### The scale -/

/-- The low codes of the scales' bytes. -/
theorem scale_lo (x2 : (⟨S280x17152, .i8⟩ : BufTy).Contents (Elt Ideal)) (i : S280x17152.Idx) : val_main_v4 (F := Ideal) x2 i = Spec.code3 (x2 i) 0 := by
  rw [val_main_v4_apply, val_main_v1_apply, val_main_v3_apply, val_main_c_apply]; rfl

/-- The high codes of the scales' bytes. -/
theorem scale_hi (x2 : (⟨S280x17152, .i8⟩ : BufTy).Contents (Elt Ideal)) (i : S280x17152.Idx) : val_main_v8 (F := Ideal) x2 i = Spec.code3 (x2 i) 1 := by
  rw [val_main_v8_apply, val_main_v6_apply, val_main_v1_apply, val_main_v5_apply, val_main_c_0_apply, val_main_v7_apply, val_main_c_1_apply]; rfl

/-- The two codes of a byte stacked: entry `(q, p, n)` is code `p` of byte `(q, n)`. -/
theorem scale_codes (x2 : (⟨S280x17152, .i8⟩ : BufTy).Contents (Elt Ideal)) (q : Fin 280) (p : Fin 2) (n : Fin 17152) :
    val_main_v11 (F := Ideal) x2 (ix3 q p n) = Spec.code3 (x2 (ix2 q n)) p.val := by
  unfold val_main_v11
  rw [concatenate_pair_apply]
  by_cases hp : p.val = 0
  · refine (dif_pos (show p.val < 1 by omega)).trans ?_
    rw [val_main_v9_apply, scale_lo]
    refine Eq.trans (congrArg (fun i => Spec.code3 (x2 i) 0) (?_ : _ = ix2 q n)) (congrArg (Spec.code3 (x2 (ix2 q n))) hp.symm)
    exact pos2 _ _ rfl rfl
  · refine (dif_neg (show ¬ p.val < 1 by omega)).trans ?_
    rw [val_main_v10_apply, scale_hi]
    refine Eq.trans (congrArg (fun i => Spec.code3 (x2 i) 1) (?_ : _ = ix2 q n))
      (congrArg (Spec.code3 (x2 (ix2 q n))) (show 1 = p.val by omega))
    exact pos2 _ _ rfl rfl

/-- The codes at block `b`, row `r` of sixteen. -/
theorem scale_blocks (x2 : (⟨S280x17152, .i8⟩ : BufTy).Contents (Elt Ideal)) (b : Fin 35) (r : Fin 16) (n : Fin 17152) :
    val_main_v13 (F := Ideal) x2 (ix3 b r n)
      = Spec.num (Spec.code3 (x2 (ix2 ⟨(b.val * 16 + r.val) / 2, by omega⟩ n)) ((b.val * 16 + r.val) % 2)) := by
  rw [val_main_v13_apply, val_main_v12_apply]
  have e : idx_main_v13 (ix3 b r n) = ix3 ⟨(b.val * 16 + r.val) / 2, by omega⟩ ⟨(b.val * 16 + r.val) % 2, by omega⟩ n :=
    pos3 _ _ (split2 n.isLt).1 (split2 n.isLt).2.1 (split2 n.isLt).2.2
  rw [e, scale_codes]; rfl

/-- The scale of group `g` in column `n`, as the reference computes it. -/
theorem scale_apply (x2 : (⟨S280x17152, .i8⟩ : BufTy).Contents (Elt Ideal)) (x4 x5 : (⟨S35x17152, .f32⟩ : BufTy).Contents (Elt Ideal)) (g : Fin 560) (n : Fin 17152) :
    val_main_v21 (F := Ideal) x2 x4 x5 (ix2 g n) = Spec.stat (col x2 n) (col x4 n) (col x5 n) g := by
  have hg := g.isLt
  rw [val_main_v21_apply, val_main_v20_apply]
  have e : idx_main_v20 (ix2 g n) = ix3 ⟨g.val / 16, by omega⟩ ⟨g.val % 16, by omega⟩ n :=
    pos3 _ _ (split16 n.isLt hg).1 (split16 n.isLt hg).2.1 (split16 n.isLt hg).2.2
  rw [e, val_main_v19_apply, val_main_v16_apply, scale_blocks, val_main_v15_apply, val_main_v14_apply, val_main_v18_apply, val_main_v17_apply]
  have e1 : idx_main_v14 (idx_main_v15 (ix3 (⟨g.val / 16, by omega⟩ : Fin 35) (⟨g.val % 16, by omega⟩ : Fin 16) n)) = ix2 (⟨g.val / 16, by omega⟩ : Fin 35) n :=
    pos2 _ _ rfl rfl
  have e2 : idx_main_v17 (idx_main_v18 (ix3 (⟨g.val / 16, by omega⟩ : Fin 35) (⟨g.val % 16, by omega⟩ : Fin 16) n)) = ix2 (⟨g.val / 16, by omega⟩ : Fin 35) n :=
    pos2 _ _ rfl rfl
  rw [e1, e2]
  have e3 : g.val / 16 * 16 + g.val % 16 = g.val := by omega
  have key : ∀ (k : ℕ) (hk : k / 2 < 280) (hk' : k = g.val),
      Spec.code3 (x2 (ix2 (⟨k / 2, hk⟩ : Fin 280) n)) (k % 2) = Spec.code3 (col x2 n ⟨g.val / 2, by omega⟩) (g.val % 2) := by
    intro k hk hk'; subst hk'; rfl
  exact congrArg (fun y => (Spec.num y - x5 (ix2 ⟨g.val / 16, by omega⟩ n)) * x4 (ix2 ⟨g.val / 16, by omega⟩ n)) (key _ (by show (g.val / 16 * 16 + g.val % 16) / 2 < 280; omega) e3)

/-! ### The zero point -/

/-- The low codes of the zero points' bytes. -/
theorem zero_lo (x3 : (⟨S280x17152, .i8⟩ : BufTy).Contents (Elt Ideal)) (i : S280x17152.Idx) : val_main_v23 (F := Ideal) x3 i = Spec.code3 (x3 i) 0 := by
  rw [val_main_v23_apply, val_main_v2_apply, val_main_v22_apply, val_main_c_2_apply]; rfl

/-- The high codes of the zero points' bytes. -/
theorem zero_hi (x3 : (⟨S280x17152, .i8⟩ : BufTy).Contents (Elt Ideal)) (i : S280x17152.Idx) : val_main_v27 (F := Ideal) x3 i = Spec.code3 (x3 i) 1 := by
  rw [val_main_v27_apply, val_main_v25_apply, val_main_v2_apply, val_main_v24_apply, val_main_c_3_apply, val_main_v26_apply, val_main_c_4_apply]; rfl

/-- The two codes of a byte stacked: entry `(q, p, n)` is code `p` of byte `(q, n)`. -/
theorem zero_codes (x3 : (⟨S280x17152, .i8⟩ : BufTy).Contents (Elt Ideal)) (q : Fin 280) (p : Fin 2) (n : Fin 17152) :
    val_main_v30 (F := Ideal) x3 (ix3 q p n) = Spec.code3 (x3 (ix2 q n)) p.val := by
  unfold val_main_v30
  rw [concatenate_pair_apply]
  by_cases hp : p.val = 0
  · refine (dif_pos (show p.val < 1 by omega)).trans ?_
    rw [val_main_v28_apply, zero_lo]
    refine Eq.trans (congrArg (fun i => Spec.code3 (x3 i) 0) (?_ : _ = ix2 q n)) (congrArg (Spec.code3 (x3 (ix2 q n))) hp.symm)
    exact pos2 _ _ rfl rfl
  · refine (dif_neg (show ¬ p.val < 1 by omega)).trans ?_
    rw [val_main_v29_apply, zero_hi]
    refine Eq.trans (congrArg (fun i => Spec.code3 (x3 i) 1) (?_ : _ = ix2 q n))
      (congrArg (Spec.code3 (x3 (ix2 q n))) (show 1 = p.val by omega))
    exact pos2 _ _ rfl rfl

/-- The codes at block `b`, row `r` of sixteen. -/
theorem zero_blocks (x3 : (⟨S280x17152, .i8⟩ : BufTy).Contents (Elt Ideal)) (b : Fin 35) (r : Fin 16) (n : Fin 17152) :
    val_main_v32 (F := Ideal) x3 (ix3 b r n)
      = Spec.num (Spec.code3 (x3 (ix2 ⟨(b.val * 16 + r.val) / 2, by omega⟩ n)) ((b.val * 16 + r.val) % 2)) := by
  rw [val_main_v32_apply, val_main_v31_apply]
  have e : idx_main_v32 (ix3 b r n) = ix3 ⟨(b.val * 16 + r.val) / 2, by omega⟩ ⟨(b.val * 16 + r.val) % 2, by omega⟩ n :=
    pos3 _ _ (split2 n.isLt).1 (split2 n.isLt).2.1 (split2 n.isLt).2.2
  rw [e, zero_codes]; rfl

/-- The zero point of group `g` in column `n`, as the reference computes it. -/
theorem zero_apply (x3 : (⟨S280x17152, .i8⟩ : BufTy).Contents (Elt Ideal)) (x6 x7 : (⟨S35x17152, .f32⟩ : BufTy).Contents (Elt Ideal)) (g : Fin 560) (n : Fin 17152) :
    val_main_v40 (F := Ideal) x3 x6 x7 (ix2 g n) = Spec.stat (col x3 n) (col x6 n) (col x7 n) g := by
  have hg := g.isLt
  rw [val_main_v40_apply, val_main_v39_apply]
  have e : idx_main_v39 (ix2 g n) = ix3 ⟨g.val / 16, by omega⟩ ⟨g.val % 16, by omega⟩ n :=
    pos3 _ _ (split16 n.isLt hg).1 (split16 n.isLt hg).2.1 (split16 n.isLt hg).2.2
  rw [e, val_main_v38_apply, val_main_v35_apply, zero_blocks, val_main_v34_apply, val_main_v33_apply, val_main_v37_apply, val_main_v36_apply]
  have e1 : idx_main_v33 (idx_main_v34 (ix3 (⟨g.val / 16, by omega⟩ : Fin 35) (⟨g.val % 16, by omega⟩ : Fin 16) n)) = ix2 (⟨g.val / 16, by omega⟩ : Fin 35) n :=
    pos2 _ _ rfl rfl
  have e2 : idx_main_v36 (idx_main_v37 (ix3 (⟨g.val / 16, by omega⟩ : Fin 35) (⟨g.val % 16, by omega⟩ : Fin 16) n)) = ix2 (⟨g.val / 16, by omega⟩ : Fin 35) n :=
    pos2 _ _ rfl rfl
  rw [e1, e2]
  have e3 : g.val / 16 * 16 + g.val % 16 = g.val := by omega
  have key : ∀ (k : ℕ) (hk : k / 2 < 280) (hk' : k = g.val),
      Spec.code3 (x3 (ix2 (⟨k / 2, hk⟩ : Fin 280) n)) (k % 2) = Spec.code3 (col x3 n ⟨g.val / 2, by omega⟩) (g.val % 2) := by
    intro k hk hk'; subst hk'; rfl
  exact congrArg (fun y => (Spec.num y - x7 (ix2 ⟨g.val / 16, by omega⟩ n)) * x6 (ix2 ⟨g.val / 16, by omega⟩ n)) (key _ (by show (g.val / 16 * 16 + g.val % 16) / 2 < 280; omega) e3)

/-! ### The weights -/

/-- The low codes of the weights' bytes. -/
theorem low_code (x1 : (⟨S4480x17152, .i8⟩ : BufTy).Contents (Elt Ideal)) (i : S4480x17152.Idx) : val_main_v42 (F := Ideal) x1 i = Spec.code4 (x1 i) 0 := by
  rw [val_main_v42_apply, val_main_v0_apply, val_main_v41_apply, val_main_c_5_apply]; rfl

/-- The low weight of byte row `k` in column `n`, as the reference dequantizes it: row `2 k`. -/
theorem low_apply (x1 : (⟨S4480x17152, .i8⟩ : BufTy).Contents (Elt Ideal)) (x2 x3 : (⟨S280x17152, .i8⟩ : BufTy).Contents (Elt Ideal)) (x4 x5 x6 x7 : (⟨S35x17152, .f32⟩ : BufTy).Contents (Elt Ideal)) (k : Fin 4480) (n : Fin 17152) :
    val_main_v51 (F := Ideal) x1 x2 x3 x4 x5 x6 x7 (ix2 k n)
      = (Spec.num (Spec.code4 (col x1 n k) 0) - Spec.stat (col x3 n) (col x6 n) (col x7 n) ⟨k.val / 8, by omega⟩)
          * Spec.stat (col x2 n) (col x4 n) (col x5 n) ⟨k.val / 8, by omega⟩ := by
  have hk := k.isLt
  rw [val_main_v51_apply]
  have e : idx_main_v51 (ix2 k n) = ix3 (⟨k.val / 8, by omega⟩ : Fin 560) (⟨k.val % 8, by omega⟩ : Fin 8) n :=
    pos3 _ _ (split8 n.isLt).1 (split8 n.isLt).2.1 (split8 n.isLt).2.2
  rw [e, val_main_v50_apply, val_main_v47_apply, val_main_v44_apply, val_main_v43_apply, val_main_v46_apply,
    val_main_v45_apply, val_main_v49_apply, val_main_v48_apply]
  have e0 : idx_main_v44 (ix3 (⟨k.val / 8, by omega⟩ : Fin 560) (⟨k.val % 8, by omega⟩ : Fin 8) n) = ix2 k n :=
    pos2 _ _ ((join8 n.isLt).1.trans (by show k.val / 8 * 8 + k.val % 8 = k.val; omega)) (join8 n.isLt).2
  have e1 : idx_main_v45 (idx_main_v46 (ix3 (⟨k.val / 8, by omega⟩ : Fin 560) (⟨k.val % 8, by omega⟩ : Fin 8) n)) = ix2 (⟨k.val / 8, by omega⟩ : Fin 560) n :=
    pos2 _ _ rfl rfl
  have e2 : idx_main_v48 (idx_main_v49 (ix3 (⟨k.val / 8, by omega⟩ : Fin 560) (⟨k.val % 8, by omega⟩ : Fin 8) n)) = ix2 (⟨k.val / 8, by omega⟩ : Fin 560) n :=
    pos2 _ _ rfl rfl
  rw [e0, e1, e2, low_code, scale_apply, zero_apply]; rfl

/-- The high codes of the weights' bytes. -/
theorem high_code (x1 : (⟨S4480x17152, .i8⟩ : BufTy).Contents (Elt Ideal)) (i : S4480x17152.Idx) : val_main_v55 (F := Ideal) x1 i = Spec.code4 (x1 i) 1 := by
  rw [val_main_v55_apply, val_main_v53_apply, val_main_v0_apply, val_main_v52_apply, val_main_c_6_apply, val_main_v54_apply, val_main_c_7_apply]; rfl

/-- The high weight of byte row `k` in column `n`, as the reference dequantizes it: row `2 k + 1`. -/
theorem high_apply (x1 : (⟨S4480x17152, .i8⟩ : BufTy).Contents (Elt Ideal)) (x2 x3 : (⟨S280x17152, .i8⟩ : BufTy).Contents (Elt Ideal)) (x4 x5 x6 x7 : (⟨S35x17152, .f32⟩ : BufTy).Contents (Elt Ideal)) (k : Fin 4480) (n : Fin 17152) :
    val_main_v64 (F := Ideal) x1 x2 x3 x4 x5 x6 x7 (ix2 k n)
      = (Spec.num (Spec.code4 (col x1 n k) 1) - Spec.stat (col x3 n) (col x6 n) (col x7 n) ⟨k.val / 8, by omega⟩)
          * Spec.stat (col x2 n) (col x4 n) (col x5 n) ⟨k.val / 8, by omega⟩ := by
  have hk := k.isLt
  rw [val_main_v64_apply]
  have e : idx_main_v64 (ix2 k n) = ix3 (⟨k.val / 8, by omega⟩ : Fin 560) (⟨k.val % 8, by omega⟩ : Fin 8) n :=
    pos3 _ _ (split8 n.isLt).1 (split8 n.isLt).2.1 (split8 n.isLt).2.2
  rw [e, val_main_v63_apply, val_main_v60_apply, val_main_v57_apply, val_main_v56_apply, val_main_v59_apply,
    val_main_v58_apply, val_main_v62_apply, val_main_v61_apply]
  have e0 : idx_main_v57 (ix3 (⟨k.val / 8, by omega⟩ : Fin 560) (⟨k.val % 8, by omega⟩ : Fin 8) n) = ix2 k n :=
    pos2 _ _ ((join8 n.isLt).1.trans (by show k.val / 8 * 8 + k.val % 8 = k.val; omega)) (join8 n.isLt).2
  have e1 : idx_main_v58 (idx_main_v59 (ix3 (⟨k.val / 8, by omega⟩ : Fin 560) (⟨k.val % 8, by omega⟩ : Fin 8) n)) = ix2 (⟨k.val / 8, by omega⟩ : Fin 560) n :=
    pos2 _ _ rfl rfl
  have e2 : idx_main_v61 (idx_main_v62 (ix3 (⟨k.val / 8, by omega⟩ : Fin 560) (⟨k.val % 8, by omega⟩ : Fin 8) n)) = ix2 (⟨k.val / 8, by omega⟩ : Fin 560) n :=
    pos2 _ _ rfl rfl
  rw [e0, e1, e2, high_code, scale_apply, zero_apply]; rfl

/-! ### The products -/

/-- Row `2 k` of the specification's weights. -/
theorem wt_even (w : Fin 4480 → BitVec 8) (sc ze : Fin 560 → EReal) (k : Fin 4480) (h : 2 * k.val < 8960) :
    Spec.wt w sc ze ⟨2 * k.val, h⟩
      = (Spec.num (Spec.code4 (w k) 0) - ze ⟨k.val / 8, by omega⟩) * sc ⟨k.val / 8, by omega⟩ := by
  have e1 : (⟨2 * k.val / 2, by omega⟩ : Fin 4480) = k := Fin.ext (by show 2 * k.val / 2 = k.val; omega)
  have e2 : (⟨2 * k.val / 16, by omega⟩ : Fin 560) = ⟨k.val / 8, by omega⟩ := Fin.ext (by show 2 * k.val / 16 = k.val / 8; omega)
  have e3 : 2 * k.val % 2 = 0 := by omega
  show (Spec.num (Spec.code4 (w ⟨2 * k.val / 2, _⟩) (2 * k.val % 2)) - ze ⟨2 * k.val / 16, _⟩) * sc ⟨2 * k.val / 16, _⟩ = _
  rw [e1, e2, e3]

/-- Row `2 k + 1` of the specification's weights. -/
theorem wt_odd (w : Fin 4480 → BitVec 8) (sc ze : Fin 560 → EReal) (k : Fin 4480) (h : 2 * k.val + 1 < 8960) :
    Spec.wt w sc ze ⟨2 * k.val + 1, h⟩
      = (Spec.num (Spec.code4 (w k) 1) - ze ⟨k.val / 8, by omega⟩) * sc ⟨k.val / 8, by omega⟩ := by
  have e1 : (⟨(2 * k.val + 1) / 2, by omega⟩ : Fin 4480) = k := Fin.ext (by show (2 * k.val + 1) / 2 = k.val; omega)
  have e2 : (⟨(2 * k.val + 1) / 16, by omega⟩ : Fin 560) = ⟨k.val / 8, by omega⟩ := Fin.ext (by show (2 * k.val + 1) / 16 = k.val / 8; omega)
  have e3 : (2 * k.val + 1) % 2 = 1 := by omega
  show (Spec.num (Spec.code4 (w ⟨(2 * k.val + 1) / 2, _⟩) ((2 * k.val + 1) % 2)) - ze ⟨(2 * k.val + 1) / 16, _⟩) * sc ⟨(2 * k.val + 1) / 16, _⟩ = _
  rw [e1, e2, e3]

/-- The even columns of the activations. -/
theorem even_apply (x0 : (⟨S192x1x8960, .bf16⟩ : BufTy).Contents (Elt Ideal)) (t : Fin 192) (u : Fin 1) (k : Fin 4480) :
    val_main_v65 (F := Ideal) x0 (ix3 t u k) = x0 (ix3 t 0 ⟨2 * k.val, by omega⟩) := by
  unfold val_main_v65
  rw [Host.slice_apply]
  exact congrArg x0 (pos3 _ _ (by show 0 + 1 * t.val = t.val; omega) (by show 0 + 1 * u.val = 0; omega) (by show 0 + 2 * k.val = 2 * k.val; omega))

/-- The odd columns of the activations. -/
theorem odd_apply (x0 : (⟨S192x1x8960, .bf16⟩ : BufTy).Contents (Elt Ideal)) (t : Fin 192) (u : Fin 1) (k : Fin 4480) :
    val_main_v67 (F := Ideal) x0 (ix3 t u k) = x0 (ix3 t 0 ⟨2 * k.val + 1, by omega⟩) := by
  unfold val_main_v67
  rw [Host.slice_apply]
  exact congrArg x0 (pos3 _ _ (by show 0 + 1 * t.val = t.val; omega) (by show 0 + 1 * u.val = 0; omega) (by show 1 + 2 * k.val = 2 * k.val + 1; omega))

/-- THE REFERENCE'S RESULT at row `t` and column `n`: the sum over the 8960 weight rows of the activation times the
    dequantized weight. -/
theorem result_apply (x0 : (⟨S192x1x8960, .bf16⟩ : BufTy).Contents (Elt Ideal)) (x1 : (⟨S4480x17152, .i8⟩ : BufTy).Contents (Elt Ideal))
    (x2 x3 : (⟨S280x17152, .i8⟩ : BufTy).Contents (Elt Ideal)) (x4 x5 x6 x7 : (⟨S35x17152, .f32⟩ : BufTy).Contents (Elt Ideal))
    (t : Fin 192) (n : Fin 17152) :
    val_main_v70 (F := Ideal) x0 x1 x2 x3 x4 x5 x6 x7 (ix2 t n)
      = Spec.out (fun R => x0 (ix3 t 0 R)) (col x1 n) (Spec.stat (col x2 n) (col x4 n) (col x5 n))
          (Spec.stat (col x3 n) (col x6 n) (col x7 n)) := by
  rw [val_main_v70_apply]
  have e : idx_main_v70 (ix2 t n) = ix3 t (0 : Fin 1) n :=
    pos3 _ _ (by show (t.val * 17152 + n.val) / 17152 = t.val; omega) rfl (by show (t.val * 17152 + n.val) % 17152 = n.val; omega)
  rw [e, val_main_v69_apply, val_main_v66_apply, val_main_v68_apply, Spec.out_eq_parity]
  refine congrArg₂ (fun a b : EReal => a + b) (Finset.sum_congr rfl fun k _ => ?_) (Finset.sum_congr rfl fun k _ => ?_)
  · have el : lidx_main_v66 (ix3 t (0 : Fin 1) n) k = ix3 t (0 : Fin 1) k := pos3 _ _ rfl rfl rfl
    have er : ridx_main_v66 (ix3 t (0 : Fin 1) n) k = ix2 k n := pos2 _ _ rfl rfl
    rw [el, er, even_apply, low_apply, wt_even]
  · have el : lidx_main_v68 (ix3 t (0 : Fin 1) n) k = ix3 t (0 : Fin 1) k := pos3 _ _ rfl rfl rfl
    have er : ridx_main_v68 (ix3 t (0 : Fin 1) n) k = ix2 k n := pos2 _ _ rfl rfl
    rw [el, er, odd_apply, high_apply, wt_odd]

end Cert.ReferenceIdeal.Hand

end
-- ==== Proof.Inputs.lean ====
module
public import proofs.«01_k».proof.Proof.Result
public import proofs.«01_k».proof.Proof.RefValue
@[expose] public section
/-! The kernel's whole result in terms of the arguments: the activations as the kernel finds them are the first argument
    with its axis of size one dropped, the other arrays are the arguments themselves, and so the result is the
    reference's. -/
set_option maxRecDepth 16384
set_option maxHeartbeats 2000000
noncomputable section
namespace Cert.KernelIdeal.Hand
open Idealize.ShloMosaic Idealize.ShloMosaic.TcCoe Idealize.SL Idealize.SL.Sem
open Cert.KernelIdeal Cert.KernelIdeal.Gen

variable (m : (ℓ : Loc nD τ sig) → Buf (Elt Ideal) ℓ)

/-- The activations as the kernel finds them: the first argument reshaped. -/
theorem V_main_v0 (c : Dev nD) : V m c main_v0
    = shapeCast S192x8960 (m ((c : Thread nD τ).loc main_arg0)) shapeCasts_S192x1x8960_S192x8960 := by
  show StableHlo.after hostOps0 _ (Proc.devRef .tc main_v0) = _
  after_results
  rfl

/-- Entry `(t, R)` of a matrix made by dropping the middle axis of size one is entry `(t, 0, R)`. -/
theorem drop_middle {α : Type} (x : S192x1x8960.Idx → α) (t : Fin 192) (R : Fin 8960) :
    shapeCast S192x8960 x shapeCasts_S192x1x8960_S192x8960 (ix2 t R) = x (ix3 t 0 R) :=
  shapeCast_apply x shapeCasts_S192x1x8960_S192x8960 (ix2 t R) (ix3 t (0 : Fin 1) R)
    (by rewrite [Shape.rowMajor_val_three, Shape.rowMajor_val_two]; show (t.val * 1 + 0) * 8960 + R.val = t.val * 8960 + R.val; omega)

/-- The whole result is the reference's value at the arguments. -/
theorem outM_eq (c : Dev nD) : outM m c
    = Cert.ReferenceIdeal.Read.val_main_v70 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  unfold outM
  rw [V_main_v0, V_main_arg1, V_main_arg2, V_main_arg3, V_main_arg4, V_main_arg5, V_main_arg6, V_main_arg7]
  funext q
  refine Eq.trans ?_ ((congrArg _ (eq_ix2 (n0 := 192) (n1 := 17152) q)).trans
    (Cert.ReferenceIdeal.Hand.result_apply _ _ _ _ _ _ _ _ (q 0) (q 1))).symm
  unfold outG
  exact congrArg (fun f => Spec.out f _ _ _) (funext fun R => drop_middle _ (q 0) R)

end Cert.KernelIdeal.Hand

end
-- ==== Proof.CombineRun.lean ====
module

public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame

@[expose] public section

set_option maxRecDepth 16384
set_option maxHeartbeats 1000000

noncomputable section

namespace Cert.Combine.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Combine Cert.Combine.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body, from its inputs' blocks at `x1` and `x2` and anything in the result's block, runs to its end with the
    inputs' blocks unchanged. -/
theorem sound_kernel (c : Dev nD) (E : Set ℕ) (i : grid0.Coords) (arg1 : Memref sig .tc .vmem S192x512 .f32) (harg1 : arg1.IsWhole)
    (arg2 : Memref sig .tc .vmem S512x192 .f32) (harg2 : arg2.IsWhole) (arg3 : Memref sig .tc .vmem S192x512 .bf16) (harg3 : arg3.IsWhole)
    (x1 : Vec F S192x512 .f32) (x2 : Vec F S512x192 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2 ∗ (∃ d, owns (c : Thread nD τ) arg3 fullShare d)) -∗ K ⟨⟩))
      ⊢ wp frame (wpE (defs₀ (F := F)) Variants.none c none) E (cc0_combine (F := F) i arg1 harg1 arg2 harg2 arg3 harg3) K := by
  simp only [cc0_combine_eq_skeleton]; unfold cc0_combine_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _, _; isplitr; swap; · iexact H3
  ipureintro; rfl

/-- The windows of whose final contents nothing is said: the result's. -/
def fgt (w : Fin cfg0.W) : Bool := match w with
  | ⟨2, _⟩ => true
  | _ => false

/-- What the pipeline's run is checked against: the arrays as the kernel finds them; after the body at point `t` each
    input's buffer still at its block, and of the result's buffer nothing. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0x00000000#32) (iblk m c 0 t)
    | ⟨1, _⟩ => win0_1.fill (grid0.coords t) (fun _ => Scalar.ofBits .f32 0x00000000#32) (iblk m c 1 t)
    | ⟨2, _⟩ => (fun _ => Scalar.ofBits .bf16 0x0000#16)
  Φ _ := Pipeline.ΦA spec0 c
  q _ := fullShare
  owed _ := 0

theorem A_eq (c : Dev nD) (w : Fin cfg0.W) : (dats m 0 c).A w = V m c (Pipeline.arrRef spec0 w) := by
  dsimp only [dats]

/-! Each input's buffer holds, when the body starts, the block just fetched, on the part inside the array, and the body
    leaves it so. -/

theorem before0_0 (c : Dev nD) (t : Fin cfg0.N) (d) : (dats m 0 c).before 0 t d = win0_0.fill (grid0.coords t) d (iblk m c 0 t) := by
  unfold Dat.before; rw [if_pos (fetch0_0 t)]; rfl
theorem cut_after0_0 (c : Dev nD) (t : Fin cfg0.N) : win0_0.cut (grid0.coords t) ((dats m 0 c).after 0 t) = iblk m c 0 t := by
  dsimp only [dats]; exact win0_0.cut_fill _ _ _
theorem before0_1 (c : Dev nD) (t : Fin cfg0.N) (d) : (dats m 0 c).before 1 t d = win0_1.fill (grid0.coords t) d (iblk m c 1 t) := by
  unfold Dat.before; rw [if_pos (fetch0_1 t)]; rfl
theorem cut_after0_1 (c : Dev nD) (t : Fin cfg0.N) : win0_1.cut (grid0.coords t) ((dats m 0 c).after 1 t) = iblk m c 1 t := by
  dsimp only [dats]; exact win0_1.cut_fill _ _ _

/-- The body table's row at point `t`'s slots is the body at point `t`. -/
theorem defs₀_row (t : Fin cfg0.N) :
    defs₀ (F := F) .tc cfg0.body (cfg0.bodyArgs t (cfg0.slots t)) = bodyAt0 t := by
  unfold defs₀; rw [Defs.onTc_tc]

/-- The body at point `t`: it finds each input's buffer at its block on the part inside the array, and leaves it so; it
    leaves something in the result's buffer. -/
theorem body_obligation (c : Dev nD) : BodyObligationLoose (dats m 0 c) (defs₀ (F := F)) Variants.none () Set.univ fgt := fun t => by
  rw [bigSep_W0, bigSep_W0, defs₀_row]
  unfold bodyAt0
  simp only [show fgt 0 = false from rfl, show fgt 1 = false from rfl, show fgt 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, ⟨%d2o, H2⟩⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [cut_after0_0]; try iexact H0
  isplitl [H1]
  · iexists d1
    change _ ⊢ owns (c : Thread nD τ) (st0_1 t) fullShare (win0_1.fill (grid0.coords t) d1 (win0_1.cut (grid0.coords t) ((dats m 0 c).after 1 t)))
    rw [cut_after0_1]; try iexact H1
  iexists _; iexact H2

set_option backward.isDefEq.respectTransparency.types false in
/-- Every run of the whole program ends, with every counter at zero and every array at what the blocks written back leave. -/
theorem run_main : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1))
    ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩, h.2⟩)
    (run_main m ρ)

end Cert.Combine.Hand

end
-- ==== Proof.CombineResult.lean ====
module

public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Columns
public import proofs.«01_k».proof.Proof.Gen.LastSumIdeal
public import proofs.«01_k».proof.Proof.Gen.LastSumIdeal.Run
public import proofs.«01_k».proof.Proof.Gen.LastSumIdeal.Read
public import Idealize.ShloMosaic.Lib.VecWindow
public import Idealize.ShloMosaic.Lib.Pipeline.Value

@[expose] public section

set_option maxRecDepth 16384
set_option maxHeartbeats 1000000

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.CombineIdeal Cert.CombineIdeal.Gen
open Cert.KernelIdeal.Hand (lt_extent lt_rows off_rows off_cols zero_off)

local notation "𝕄" => MT nD τ sig Unit (Elt Ideal) ℕ (UR sig nD τ) ℕ

variable (m : (ℓ : Loc nD τ sig) → Buf (Elt Ideal) ℓ) (ρ : Dev nD → PrngReg)

/-- The body's result at row `t` and column `n`: the first block there plus the second, transposed. -/
theorem pay1_apply (a : Vec Ideal S192x512 .f32) (b : Vec Ideal S512x192 .f32) (t : Fin 192) (n : Fin 512) :
    (k0_pay1 a b (ix2 t n) : EReal) = a (ix2 t n) + b (ix2 n t) := by
  unfold k0_pay1
  exact congrArg (fun y : EReal => (a (ix2 t n) : EReal) + y) (transpose_apply [1, 0] b transposes_S512x192_p1_0_S192x512 (ix2 t n) (ix2 n t) (fun b => match b with
    | ⟨0, _⟩ => rfl
    | ⟨1, _⟩ => rfl))

/-- The kernel body, from its inputs' blocks at `x1` and `x2` and anything in the result's block, runs to its end with the
    inputs' blocks unchanged and the result's at their sum, the second transposed. -/
theorem sound_kernel (c : Dev nD) (E : Set ℕ) (i : grid0.Coords) (arg1 : Memref sig .tc .vmem S192x512 .f32) (harg1 : arg1.IsWhole)
    (arg2 : Memref sig .tc .vmem S512x192 .f32) (harg2 : arg2.IsWhole) (arg3 : Memref sig .tc .vmem S192x512 .bf16) (harg3 : arg3.IsWhole)
    (x1 : Vec Ideal S192x512 .f32) (x2 : Vec Ideal S512x192 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2 ∗ owns (c : Thread nD τ) arg3 fullShare (k0_pay1 x1 x2)) -∗ K ⟨⟩))
      ⊢ wp frame (wpE (defs₀ (F := Ideal)) Variants.none c none) E (cc0_combine (F := Ideal) i arg1 harg1 arg2 harg2 arg3 harg3) K := by
  simp only [cc0_combine_eq_skeleton]; unfold cc0_combine_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (View.cover_of_tiled _ S192x512.size (by rfl))).trans ?_
  refine (View.canon_unit_zero zero_off _ _).trans ?_
  exact congrArg₂ k0_pay1 (View.readAt_full _ _ _) (View.readAt_full _ _ _)

/-! ### The blocks -/

/-- Point `t`'s block of the first input and of the result is at block column `t`. -/
theorem transform_cols : ∀ t : Fin cfg0.N, cc0_transform_0 (grid0.coords t) = ![0, t.val] :=
  (by decide +kernel : ∀ t : Fin 34, cc0_transform_0 (grid0.coords t) = ![0, t.val])

/-- Point `t`'s block of the second input is at block row `t`. -/
theorem transform_rows : ∀ t : Fin cfg0.N, cc0_transform_1 (grid0.coords t) = ![t.val, 0] :=
  (by decide +kernel : ∀ t : Fin 34, cc0_transform_1 (grid0.coords t) = ![t.val, 0])

/-- Column `n` of the first input's block as fetched at point `t` is column `512 t + n` of its array. -/
theorem fill_0 (t : Fin cfg0.N) (A : S192x17152.Idx → Elt Ideal .f32) (d : S192x512.Idx → Elt Ideal .f32) (R : Fin 192) (n : Fin 512) (hn : t.val * 512 + n.val < 17152) :
    win0_0.fill (grid0.coords t) d ((win0_0.blk t).view.read (Elt Ideal) A) (ix2 R n) = A (ix2 R ⟨t.val * 512 + n.val, hn⟩) := by
  have e : cc0_transform_0 (grid0.coords t) = ![0, t.val] := transform_cols t
  have hm : win0_0.moved (grid0.coords t) (ix2 R n) = true := (win0_0.moved_iff _ _).mpr fun a => by
    show _ < (Pipeline.Clip.of (cc0_transform_0 (grid0.coords t) a) (S192x512.size a) (S192x17152.size a)).extent (S192x512.size a)
    refine lt_extent (Fin.isLt _) ?_
    rw [e]
    match a with
    | ⟨0, _⟩ => exact lt_rows rfl (Fin.isLt _)
    | ⟨1, _⟩ => exact hn
  unfold Pipeline.Window.fill
  rw [dif_pos hm, View.read_apply]
  refine congrArg A (funext fun a => Fin.ext ?_)
  match a with
  | ⟨0, _⟩ =>
    exact Eq.trans (b := cc0_transform_0 (grid0.coords t) 0 * S192x512.size 0 + 1 * R.val) rfl (off_rows (congrFun e 0))
  | ⟨1, _⟩ =>
    exact Eq.trans (b := cc0_transform_0 (grid0.coords t) 1 * S192x512.size 1 + 1 * n.val) rfl (off_cols (congrFun e 1))

/-- Row `n` of the second input's block as fetched at point `t` is row `512 t + n` of its array. -/
theorem fill_1 (t : Fin cfg0.N) (A : S17152x192.Idx → Elt Ideal .f32) (d : S512x192.Idx → Elt Ideal .f32) (R : Fin 192) (n : Fin 512) (hn : t.val * 512 + n.val < 17152) :
    win0_1.fill (grid0.coords t) d ((win0_1.blk t).view.read (Elt Ideal) A) (ix2 n R) = A (ix2 ⟨t.val * 512 + n.val, hn⟩ R) := by
  have e : cc0_transform_1 (grid0.coords t) = ![t.val, 0] := transform_rows t
  have hm : win0_1.moved (grid0.coords t) (ix2 n R) = true := (win0_1.moved_iff _ _).mpr fun a => by
    show _ < (Pipeline.Clip.of (cc0_transform_1 (grid0.coords t) a) (S512x192.size a) (S17152x192.size a)).extent (S512x192.size a)
    refine lt_extent (Fin.isLt _) ?_
    rw [e]
    match a with
    | ⟨0, _⟩ => exact hn
    | ⟨1, _⟩ => exact lt_rows rfl (Fin.isLt _)
  unfold Pipeline.Window.fill
  rw [dif_pos hm, View.read_apply]
  refine congrArg A (funext fun a => Fin.ext ?_)
  match a with
  | ⟨0, _⟩ =>
    exact Eq.trans (b := cc0_transform_1 (grid0.coords t) 0 * S512x192.size 0 + 1 * n.val) rfl (off_cols (congrFun e 0))
  | ⟨1, _⟩ =>
    exact Eq.trans (b := cc0_transform_1 (grid0.coords t) 1 * S512x192.size 1 + 1 * R.val) rfl (off_rows (congrFun e 1))

/-- The whole result: the first array plus the second, transposed. -/
def outG (A : S192x17152.Idx → Elt Ideal .f32) (B : S17152x192.Idx → Elt Ideal .f32) : S192x17152.Idx → Elt Ideal .bf16 := fun q =>
  ((A (ix2 (n0 := 192) (n1 := 17152) (q 0) (q 1)) : EReal) + B (ix2 (n0 := 17152) (n1 := 192) (q 1) (q 0)) : EReal)

/-- The columns inside the array of what the body stores at point `t` are block `t` of the whole result. -/
theorem cut_pay1 (t : Fin cfg0.N) (A : S192x17152.Idx → Elt Ideal .f32) (B : S17152x192.Idx → Elt Ideal .f32)
    (d0 : S192x512.Idx → Elt Ideal .f32) (d1 : S512x192.Idx → Elt Ideal .f32) :
    win0_2.cut (grid0.coords t) (k0_pay1 (win0_0.fill (grid0.coords t) d0 ((win0_0.blk t).view.read (Elt Ideal) A))
      (win0_1.fill (grid0.coords t) d1 ((win0_1.blk t).view.read (Elt Ideal) B)))
    = (win0_2.blk t).view.read (Elt Ideal) (outG A B) := by
  have e : cc0_transform_2 (grid0.coords t) = ![0, t.val] := transform_cols t
  funext j
  have hj : (j 1).val < 512 := Nat.lt_of_lt_of_le (j 1).isLt (win0_2.xsize_le (grid0.coords t) 1)
  have hn : t.val * 512 + (j 1).val < 17152 := by
    have h1 := Pipeline.Clip.inb (Pipeline.Clip.ok_of (hstart0_2 (grid0.coords t) 1))
    have h2 : (j 1).val < (Pipeline.Clip.of (cc0_transform_2 (grid0.coords t) 1) (S192x512.size 1) (S192x17152.size 1)).extent (S192x512.size 1) := (j 1).isLt
    have h3 : cc0_transform_2 (grid0.coords t) 1 * S192x512.size 1 = t.val * 512 := by rw [e]; rfl
    have h4 : S192x17152.size 1 = 17152 := rfl
    omega
  rw [View.read_apply]
  have hq : ((win0_2.blk t).view.emb j : S192x17152.Idx) = ix2 (n0 := 192) (n1 := 17152) (win0_2.xinj (grid0.coords t) j 0) ⟨t.val * 512 + (j 1).val, hn⟩ := by
    funext a
    refine Fin.ext ?_
    match a with
    | ⟨0, _⟩ =>
      show cc0_transform_2 (grid0.coords t) 0 * 192 + 1 * (j 0).val = (j 0).val
      rw [e]; show 0 * 192 + 1 * (j 0).val = (j 0).val; omega
    | ⟨1, _⟩ =>
      show cc0_transform_2 (grid0.coords t) 1 * 512 + 1 * (j 1).val = t.val * 512 + (j 1).val
      rw [e]; show t.val * 512 + 1 * (j 1).val = t.val * 512 + (j 1).val; omega
  refine Eq.trans ?_ (congrArg (outG A B) hq).symm
  have hx : win0_2.xinj (grid0.coords t) j = ix2 (n0 := 192) (n1 := 512) (win0_2.xinj (grid0.coords t) j 0) ⟨(j 1).val, hj⟩ := eq_ix2 _
  refine Eq.trans (congrArg (k0_pay1 (win0_0.fill (grid0.coords t) d0 ((win0_0.blk t).view.read (Elt Ideal) A))
      (win0_1.fill (grid0.coords t) d1 ((win0_1.blk t).view.read (Elt Ideal) B))) hx) ?_
  refine (pay1_apply _ _ _ _).trans ?_
  exact congrArg₂ (fun a b : EReal => a + b) (fill_0 t A d0 _ ⟨_, hj⟩ hn) (fill_1 t B d1 _ ⟨_, hj⟩ hn)

/-! ### The run -/

/-- The whole result, from the two arguments. -/
def outM (c : Dev nD) : S192x17152.Idx → Elt Ideal .bf16 := outG (V m c main_arg0) (V m c main_arg1)

/-- What the pipeline's run is checked against: the arrays as the kernel finds them; after the body at point `t` each
    input's buffer still at its block, and the result's at block `t` of the whole result (past the array's end nothing is
    said of a buffer, and the contents named there are a filler). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (outM m c))
  Φ _ := Pipeline.ΦA spec0 c
  q _ := fullShare
  owed _ := 0

theorem A_eq (c : Dev nD) (w : Fin cfg0.W) : (dats m 0 c).A w = V m c (Pipeline.arrRef spec0 w) := by
  dsimp only [dats]

/-! Each input's buffer holds, when the body starts, the block just fetched, on the part inside the array, and the body
    leaves it so. -/

theorem before0_0 (c : Dev nD) (t : Fin cfg0.N) (d) : (dats m 0 c).before 0 t d = win0_0.fill (grid0.coords t) d (iblk m c 0 t) := by
  unfold Dat.before; rw [if_pos (fetch0_0 t)]; rfl
theorem cut_after0_0 (c : Dev nD) (t : Fin cfg0.N) : win0_0.cut (grid0.coords t) ((dats m 0 c).after 0 t) = iblk m c 0 t := by
  dsimp only [dats]; exact win0_0.cut_fill _ _ _
theorem before0_1 (c : Dev nD) (t : Fin cfg0.N) (d) : (dats m 0 c).before 1 t d = win0_1.fill (grid0.coords t) d (iblk m c 1 t) := by
  unfold Dat.before; rw [if_pos (fetch0_1 t)]; rfl
theorem cut_after0_1 (c : Dev nD) (t : Fin cfg0.N) : win0_1.cut (grid0.coords t) ((dats m 0 c).after 1 t) = iblk m c 1 t := by
  dsimp only [dats]; exact win0_1.cut_fill _ _ _

/-- The body leaves the result's buffer at block `t` of the whole result, on the columns inside the array. -/
theorem cut_after0_2 (c : Dev nD) (t : Fin cfg0.N) :
    win0_2.cut (grid0.coords t) ((dats m 0 c).after 2 t) = (win0_2.blk t).view.read (Elt Ideal) (outM m c) := by
  dsimp only [dats]; exact win0_2.cut_fill _ _ _

/-- The body table's row at point `t`'s slots is the body at point `t`. -/
theorem defs₀_row (t : Fin cfg0.N) :
    defs₀ (F := Ideal) .tc cfg0.body (cfg0.bodyArgs t (cfg0.slots t)) = bodyAt0 t := by
  unfold defs₀; rw [Defs.onTc_tc]

/-- The body at point `t`: it finds each input's buffer at its block on the part inside the array, and leaves it so; it
    leaves the result's buffer, on the columns inside the array, at block `t` of the whole result. -/
theorem body_obligation (c : Dev nD) : BodyObligationLoose (dats m 0 c) (defs₀ (F := Ideal)) Variants.none () Set.univ := fun t => by
  rw [bigSep_W0, bigSep_W0, defs₀_row]
  unfold bodyAt0
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [cut_after0_0]; try iexact H0
  isplitl [H1]
  · iexists d1
    change _ ⊢ owns (c : Thread nD τ) (st0_1 t) fullShare (win0_1.fill (grid0.coords t) d1 (win0_1.cut (grid0.coords t) ((dats m 0 c).after 1 t)))
    rw [cut_after0_1]; try iexact H1
  iexists (k0_pay1 (win0_0.fill (grid0.coords t) d0 (iblk m c 0 t)) (win0_1.fill (grid0.coords t) d1 (iblk m c 1 t)))
  change _ ⊢ owns (c : Thread nD τ) (st0_2 t) fullShare (win0_2.fill (grid0.coords t) (k0_pay1 (win0_0.fill (grid0.coords t) d0 (iblk m c 0 t)) (win0_1.fill (grid0.coords t) d1 (iblk m c 1 t))) (win0_2.cut (grid0.coords t) ((dats m 0 c).after 2 t)))
  have hx : win0_2.cut (grid0.coords t) (k0_pay1 (win0_0.fill (grid0.coords t) d0 (iblk m c 0 t)) (win0_1.fill (grid0.coords t) d1 (iblk m c 1 t))) = win0_2.cut (grid0.coords t) ((dats m 0 c).after 2 t) := by
    rw [cut_after0_2]
    exact cut_pay1 t _ _ _ _
  rw [win0_2.fill_congr_cut (grid0.coords t) hx]; try iexact H2

set_option backward.isDefEq.respectTransparency.types false in
/-- Every run of the whole program ends, with every counter at zero and every array at what the blocks written back leave. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1))
    ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every column of the result is in the block of the point its block column names. -/
theorem mem_blk (i : S192x17152.Idx) : ∃ t : Fin cfg0.N, (cfg0.win 2).flush t = true ∧ i ∈ ((cfg0.win 2).blk t).view.set := by
  have h1 : (i 1).val < 17152 := (i 1).isLt
  have ht : (i 1).val / 512 < 34 := by omega
  refine ⟨⟨(i 1).val / 512, ht⟩, flush0_2 _, ?_⟩
  have e : cc0_transform_2 (grid0.coords (⟨(i 1).val / 512, ht⟩ : Fin cfg0.N)) = ![0, (i 1).val / 512] := transform_cols ⟨(i 1).val / 512, ht⟩
  show i ∈ ((View.whole main_v0).slice (win0_2.rect ⟨(i 1).val / 512, ht⟩)).set
  rw [View.set_slice_whole, Rect.mem_set_unit]
  intro a
  show cc0_transform_2 (grid0.coords (⟨(i 1).val / 512, ht⟩ : Fin cfg0.N)) a * S192x512.size a ≤ (i a).val
    ∧ (i a).val < cc0_transform_2 (grid0.coords (⟨(i 1).val / 512, ht⟩ : Fin cfg0.N)) a * S192x512.size a + (Pipeline.Clip.of (cc0_transform_2 (grid0.coords (⟨(i 1).val / 512, ht⟩ : Fin cfg0.N)) a) (S192x512.size a) (S192x17152.size a)).extent (S192x512.size a)
  rw [e]
  match a with
  | ⟨0, _⟩ =>
    have h0 : (i 0).val < 192 := (i 0).isLt
    exact ⟨by show 0 * 192 ≤ (i 0).val; omega, by
      show (i 0).val < 0 * 192 + (Pipeline.Clip.of 0 192 192).extent 192
      rw [Nat.zero_mul, Nat.zero_add]; exact lt_extent h0 (by omega)⟩
  | ⟨1, _⟩ =>
    refine ⟨by show (i 1).val / 512 * 512 ≤ (i 1).val; omega, ?_⟩
    show (i 1).val < (i 1).val / 512 * 512 + (Pipeline.Clip.of ((i 1).val / 512) 512 17152).extent 512
    have h2 : (i 1).val % 512 < (Pipeline.Clip.of ((i 1).val / 512) 512 17152).extent 512 := lt_extent (by omega) (by omega)
    omega

/-- The result array ends at the whole result. -/
theorem arrAt_eq (c : Dev nD) : (dats m 0 c).arrAt 2 cfg0.N = outM m c :=
  Dat.arrAt_eq_of_cover (dats m 0 c) 2 (outM m c) (fun t _ => cut_after0_2 m c t) mem_blk

/-- THE VALUE: every run ends with the result array at the whole result and the argument arrays unchanged. -/
theorem value : θ_run defs (onTc (τ := τ) (main (F := Ideal))) ⟨m, fun _ => 0, ρ⟩ (fun r => ∀ c : Dev nD,
    r.2.mem ((c.tc : Thread nD τ).loc main_v0) = outM m c ∧ r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun _ h c => ⟨((h.2.1 c).1 2).trans (arrAt_eq m c), h.1.1 c⟩) (θ_run_and (frame m ρ) (run_main m ρ))

/-- The whole result is the reference's value at the arguments. -/
theorem outM_eq (c : Dev nD) : outM m c
    = Cert.LastSumIdeal.Read.val_main_v2 (F := Ideal) (m ((c : Thread nD τ).loc main_arg0)) (m ((c : Thread nD τ).loc main_arg1)) := by
  funext q
  rw [Cert.LastSumIdeal.Read.val_main_v2_apply, Cert.LastSumIdeal.Read.val_main_v1_apply, Cert.LastSumIdeal.Read.val_main_v0_apply]
  refine congrArg₂ (fun a b : EReal => a + b) (congrArg (m ((c : Thread nD τ).loc main_arg0)) (eq_ix2 (n0 := 192) (n1 := 17152) q).symm)
    (congrArg (m ((c : Thread nD τ).loc main_arg1)) (funext fun a => Fin.ext ?_))
  match a with
  | ⟨0, _⟩ => rfl
  | ⟨1, _⟩ => rfl

end Cert.CombineIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Inputs
public import proofs.«01_k».proof.Proof.CombineRun
public import proofs.«01_k».proof.Proof.CombineResult
public import Idealize.ShloMosaic.Lib.Bf16PairInverse
public import Idealize.ShloMosaic.Adequacy
public import Idealize.ShloMosaic.Init

@[expose] public section

noncomputable section

namespace Cert.Proof

open Idealize.ShloMosaic Idealize.SL.Sem

/-- The kernel as compiled runs to the end without a fault, leaves its arguments unchanged and every counter at zero. -/
theorem frame_kernel : Cert.quiescent_Kernel := fun m ρ _ => Cert.Kernel.Hand.frame (F := Bits) m ρ

/-- The ideal kernel runs to the end without a fault, leaves its arguments unchanged and every counter at zero. -/
theorem frame_ideal : Cert.quiescent_KernelIdeal := fun m ρ _ => Cert.KernelIdeal.Hand.frame m ρ

/-- The reference runs to the end without a fault and leaves its arguments unchanged; it declares no counter. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal program is the kernel's: each rewrite that made it keeps what the words hold. -/
theorem preserves : Cert.preserves_Kernel_KernelIdeal :=
  ⟨IdealRules.bf16_pair.bufferStatement Cert.KernelIdeal.S4x560x2x128 Cert.KernelIdeal.S4x560x1x128,
    IdealRules.bf16_pair.packStatement Cert.KernelIdeal.S16x512,
    IdealRules.bf16_pair.statement Cert.KernelIdeal.S1x16x2x128 Cert.KernelIdeal.S1x16x1x128,
    IdealRules.bf16_pair.statement Cert.KernelIdeal.S1x1x2x128 Cert.KernelIdeal.S1x1x1x128,
    IdealRules.bf16_pair.statement Cert.KernelIdeal.S16x128 Cert.KernelIdeal.S8x128⟩

/-- Over the reals the kernel and the reference end with the same result, whatever the arguments hold: both are the product
    of the activations and the dequantized weights. -/
theorem algebraic : Cert.algebraic_KernelIdeal_ReferenceIdeal := by
  intro m ρ m' ρ' _ hagree
  refine ⟨fun c => Cert.KernelIdeal.Hand.outM m c, Cert.KernelIdeal.Hand.value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v70_eq, h0, h1, h2, h3, h4, h5, h6, h7]
  exact (Cert.KernelIdeal.Hand.outM_eq m c).symm

/-- The combining kernel as compiled runs to the end without a fault, leaves its arguments unchanged and every counter at
    zero. -/
theorem frame_combine : Cert.quiescent_Combine := fun m ρ _ => Cert.Combine.Hand.frame (F := Bits) m ρ

/-- The ideal combining kernel runs to the end without a fault, leaves its arguments unchanged and every counter at zero. -/
theorem frame_combine_ideal : Cert.quiescent_CombineIdeal := fun m ρ _ => Cert.CombineIdeal.Hand.frame m ρ

/-- The last sum's reference runs to the end without a fault and leaves its arguments unchanged; it declares no counter. -/
theorem frame_last_sum : Cert.quiescent_LastSumIdeal := fun m ρ _ =>
  (θ_run Cert.LastSumIdeal.defs _ _).mono (fun r h => ⟨fun c => (h c).2,
      Idealize.ShloMosaic.sem_eq_zero_of_no_sems (by decide) r.2⟩)
    (Cert.LastSumIdeal.Value.run (F := Ideal) m ρ)

/-- The ideal combining program is the combining kernel's, with nothing rewritten. -/
theorem preserves_combine : Cert.preserves_Combine_CombineIdeal := trivial

/-- Over the reals the combining kernel and the reference's last sum end with the same result, whatever the arguments hold:
    the dense array plus the sparse one, transposed. -/
theorem algebraic_combine : Cert.algebraic_CombineIdeal_LastSumIdeal := by
  intro m ρ m' ρ' _ hagree
  refine ⟨fun c => Cert.CombineIdeal.Hand.outM m c, Cert.CombineIdeal.Hand.value m ρ, ?_⟩
  refine (θ_run Cert.LastSumIdeal.defs _ _).mono (fun _ h c => ⟨(h c).1.trans ?_, (h c).2⟩)
    (Cert.LastSumIdeal.Value.run (F := Ideal) m' ρ')
  obtain ⟨h0, h1⟩ := hagree c
  rw [Cert.LastSumIdeal.Read.val_main_v2_eq, h0, h1]
  exact (Cert.CombineIdeal.Hand.outM_eq m c).symm

/-- The whole claim. -/
theorem claim : Cert.Claim := ⟨Cert.Kernel.Gen.facts, Cert.KernelIdeal.Gen.facts, Cert.ReferenceIdeal.Gen.facts,
  Cert.Combine.Gen.facts, Cert.CombineIdeal.Gen.facts, Cert.LastSumIdeal.Gen.facts,
  frame_kernel, frame_ideal, frame_reference, frame_combine, frame_combine_ideal, frame_last_sum,
  preserves, algebraic, preserves_combine, algebraic_combine⟩

end Cert.Proof

end
